-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_are_normal [hPre_scales_are_normal : Cert.Pre_scales_are_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_are_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_are_normal [hPre_scales_are_normal : Cert.Pre_scales_are_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_are_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_are_normal [hKernelIdeal : Cert.KernelIdeal.Facts] [hPre_scales_are_normal : Cert.Pre_scales_are_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_are_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_are_normal [hReferenceIdeal : Cert.ReferenceIdeal.Facts] [hPre_scales_are_normal : Cert.Pre_scales_are_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_are_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.PackStatement Cert.KernelIdeal.S128x192
  ∧ IdealRules.bf16_pair.Statement Cert.KernelIdeal.S256x192 Cert.KernelIdeal.S128x192

def algebraic_KernelIdeal_ReferenceIdeal_pre_scales_are_normal [hKernelIdeal : Cert.KernelIdeal.Facts] [hReferenceIdeal : Cert.ReferenceIdeal.Facts] [hPre_scales_are_normal : Cert.Pre_scales_are_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_are_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_are_normal : Cert.Pre_scales_are_normal.Facts),
    quiescent_Kernel (hKernel := hKernel)
    ∧ quiescent_KernelIdeal (hKernelIdeal := hKernelIdeal)
    ∧ quiescent_KernelIdeal_pre_scales_are_normal (hKernelIdeal := hKernelIdeal) (hPre_scales_are_normal := hPre_scales_are_normal)
    ∧ quiescent_ReferenceIdeal (hReferenceIdeal := hReferenceIdeal)
    ∧ quiescent_ReferenceIdeal_pre_scales_are_normal (hReferenceIdeal := hReferenceIdeal) (hPre_scales_are_normal := hPre_scales_are_normal)
    ∧ preserves_Kernel_KernelIdeal
    ∧ algebraic_KernelIdeal_ReferenceIdeal_pre_scales_are_normal (hKernelIdeal := hKernelIdeal) (hReferenceIdeal := hReferenceIdeal) (hPre_scales_are_normal := hPre_scales_are_normal)
-- ==== Pre_scales_are_normal.lean ====
abbrev S192x1x6656 : Shape := ⟨3, ![192, 1, 6656]⟩
abbrev S8192x6656 : Shape := ⟨2, ![8192, 6656]⟩
abbrev S16384x208 : Shape := ⟨2, ![16384, 208]⟩
abbrev S8192x2x208 : Shape := ⟨3, ![8192, 2, 208]⟩
abbrev S8192x1x208 : Shape := ⟨3, ![8192, 1, 208]⟩
abbrev S8192x208 : Shape := ⟨2, ![8192, 208]⟩
abbrev S8192x208x32 : Shape := ⟨3, ![8192, 208, 32]⟩
abbrev S_ : Shape := ⟨0, ![]⟩

class Facts : Prop where
  natLt_8_32 : 8 < 32
  shapeCasts_S16384x208_S8192x2x208 : S16384x208.ShapeCasts S8192x2x208
  slices_S8192x2x208_S8192x1x208_0_0_0 : S8192x2x208.Slices ![0, 0, 0] S8192x1x208
  shapeCasts_S8192x1x208_S8192x208 : S8192x1x208.ShapeCasts S8192x208
  bcast_S8192x208_S8192x208x32_0_1 : S8192x208.BroadcastsInDim S8192x208x32 (![0, 1] : Fin 2 → Fin S8192x208x32.rank)
  shapeCasts_S8192x208x32_S8192x6656 : S8192x208x32.ShapeCasts S8192x6656
  slices_S8192x2x208_S8192x1x208_0_1_0 : S8192x2x208.Slices ![0, 1, 0] S8192x1x208
  bcast_S_S8192x6656 : S_.BroadcastsInDim S8192x6656 (![] : Fin 0 → Fin S8192x6656.rank)

variable [Facts]

def fn_part1 {F : FTy → Type} [FloatOps F] (main_v0 : IVec S8192x6656 32) (main_v10 : IVec S8192x6656 32) (main_v14 : IVec S8192x6656 1) (main_v19 : IVec S8192x6656 1) : IVec S8192x6656 1 :=
  let main_v20 : IVec S8192x6656 1 := ori main_v14 main_v19
  let main_c_3 : IVec S_ 32 := constantI S_ 32 112#32
  let main_v21 : IVec S8192x6656 32 := broadcastInDim S8192x6656 ![] bcast_S_S8192x6656 main_c_3
  let main_v22 : IVec S8192x6656 32 := andi main_v0 main_v21
  let main_c_4 : IVec S_ 32 := constantI S_ 32 0#32
  let main_v23 : IVec S8192x6656 32 := broadcastInDim S8192x6656 ![] bcast_S_S8192x6656 main_c_4
  let main_v24 : IVec S8192x6656 1 := cmpi .eq main_v22 main_v23
  let main_c_5 : IVec S_ 32 := constantI S_ 32 1#32
  let main_v25 : IVec S8192x6656 32 := broadcastInDim S8192x6656 ![] bcast_S_S8192x6656 main_c_5
  let main_v26 : IVec S8192x6656 1 := cmpi .sge main_v10 main_v25
  let main_c_6 : IVec S_ 32 := constantI S_ 32 254#32
  let main_v27 : IVec S8192x6656 32 := broadcastInDim S8192x6656 ![] bcast_S_S8192x6656 main_c_6
  let main_v28 : IVec S8192x6656 1 := cmpi .sle main_v10 main_v27
  let main_v29 : IVec S8192x6656 1 := andi main_v26 main_v28
  let main_v30 : IVec S8192x6656 1 := ori main_v24 main_v29
  let main_v31 : IVec S8192x6656 1 := andi main_v20 main_v30
  main_v31

def fn {F : FTy → Type} [FloatOps F] (main_arg0 : FVec F S192x1x6656 .bf16) (main_arg1 : IVec S8192x6656 8) (main_arg2 : IVec S16384x208 8) : IVec S8192x6656 1 :=
  let main_v0 : IVec S8192x6656 32 := (extui 32 · natLt_8_32) main_arg1
  let main_v1 : IVec S16384x208 32 := (extui 32 · natLt_8_32) main_arg2
  let main_v2 : IVec S8192x2x208 32 := shapeCast S8192x2x208 main_v1 shapeCasts_S16384x208_S8192x2x208
  let main_v3 : IVec S8192x1x208 32 := (extractStridedSlice S8192x1x208 ![0, 0, 0] · slices_S8192x2x208_S8192x1x208_0_0_0) main_v2
  let main_v4 : IVec S8192x208 32 := shapeCast S8192x208 main_v3 shapeCasts_S8192x1x208_S8192x208
  let main_v5 : IVec S8192x208x32 32 := broadcastInDim S8192x208x32 ![0, 1] bcast_S8192x208_S8192x208x32_0_1 main_v4
  let main_v6 : IVec S8192x6656 32 := shapeCast S8192x6656 main_v5 shapeCasts_S8192x208x32_S8192x6656
  let main_v7 : IVec S8192x1x208 32 := (extractStridedSlice S8192x1x208 ![0, 1, 0] · slices_S8192x2x208_S8192x1x208_0_1_0) main_v2
  let main_v8 : IVec S8192x208 32 := shapeCast S8192x208 main_v7 shapeCasts_S8192x1x208_S8192x208
  let main_v9 : IVec S8192x208x32 32 := broadcastInDim S8192x208x32 ![0, 1] bcast_S8192x208_S8192x208x32_0_1 main_v8
  let main_v10 : IVec S8192x6656 32 := shapeCast S8192x6656 main_v9 shapeCasts_S8192x208x32_S8192x6656
  let main_c : IVec S_ 32 := constantI S_ 32 7#32
  let main_v11 : IVec S8192x6656 32 := broadcastInDim S8192x6656 ![] bcast_S_S8192x6656 main_c
  let main_v12 : IVec S8192x6656 32 := andi main_v0 main_v11
  let main_c_0 : IVec S_ 32 := constantI S_ 32 0#32
  let main_v13 : IVec S8192x6656 32 := broadcastInDim S8192x6656 ![] bcast_S_S8192x6656 main_c_0
  let main_v14 : IVec S8192x6656 1 := cmpi .eq main_v12 main_v13
  let main_c_1 : IVec S_ 32 := constantI S_ 32 1#32
  let main_v15 : IVec S8192x6656 32 := broadcastInDim S8192x6656 ![] bcast_S_S8192x6656 main_c_1
  let main_v16 : IVec S8192x6656 1 := cmpi .sge main_v6 main_v15
  let main_c_2 : IVec S_ 32 := constantI S_ 32 254#32
  let main_v17 : IVec S8192x6656 32 := broadcastInDim S8192x6656 ![] bcast_S_S8192x6656 main_c_2
  let main_v18 : IVec S8192x6656 1 := cmpi .sle main_v6 main_v17
  let main_v19 : IVec S8192x6656 1 := andi main_v16 main_v18
  fn_part1 (F := F) main_v0 main_v10 main_v14 main_v19
-- ==== Kernel.lean ====
abbrev S192x1x6656 : Shape := ⟨3, ![192, 1, 6656]⟩
abbrev S8192x6656 : Shape := ⟨2, ![8192, 6656]⟩
abbrev S16384x208 : Shape := ⟨2, ![16384, 208]⟩
abbrev S192x6656 : Shape := ⟨2, ![192, 6656]⟩
abbrev S192x16384 : Shape := ⟨2, ![192, 16384]⟩
abbrev S256x6656 : Shape := ⟨2, ![256, 6656]⟩
abbrev S512x208 : Shape := ⟨2, ![512, 208]⟩
abbrev S192x512 : Shape := ⟨2, ![192, 512]⟩
abbrev S2x2x2x104x128 : Shape := ⟨5, ![2, 2, 2, 104, 128]⟩
abbrev S256x208 : Shape := ⟨2, ![256, 208]⟩
abbrev S64x208 : Shape := ⟨2, ![64, 208]⟩
abbrev S128x208 : Shape := ⟨2, ![128, 208]⟩
abbrev S208x128 : Shape := ⟨2, ![208, 128]⟩
abbrev S104x128 : Shape := ⟨2, ![104, 128]⟩
abbrev S1x1x1x104x128 : Shape := ⟨5, ![1, 1, 1, 104, 128]⟩
abbrev S128x256 : Shape := ⟨2, ![128, 256]⟩
abbrev S256x128 : Shape := ⟨2, ![256, 128]⟩
abbrev S64x128 : Shape := ⟨2, ![64, 128]⟩
abbrev S1x1x1x1x128 : Shape := ⟨5, ![1, 1, 1, 1, 128]⟩
abbrev S1x128 : Shape := ⟨2, ![1, 128]⟩
abbrev S16x128 : Shape := ⟨2, ![16, 128]⟩
abbrev S128x128 : Shape := ⟨2, ![128, 128]⟩
abbrev S192x256 : Shape := ⟨2, ![192, 256]⟩
abbrev S256x512 : Shape := ⟨2, ![256, 512]⟩
abbrev S192x128 : Shape := ⟨2, ![192, 128]⟩
abbrev S128x192 : Shape := ⟨2, ![128, 192]⟩
abbrev S256x192 : Shape := ⟨2, ![256, 192]⟩

abbrev nBuf : Space → Nat
  | .hbm => 5
  | .vmem => 8
  | .smem => 0
  | _ => 0

abbrev bufTy : (tb : Table) → Fin (tcTables nBuf tb) → BufTy
  | .hbm, ⟨0, _⟩ => ⟨S192x1x6656, .bf16⟩
  | .hbm, ⟨1, _⟩ => ⟨S8192x6656, .i8⟩
  | .hbm, ⟨2, _⟩ => ⟨S16384x208, .i8⟩
  | .hbm, ⟨3, _⟩ => ⟨S192x6656, .bf16⟩
  | .hbm, ⟨4, _⟩ => ⟨S192x16384, .bf16⟩
  | .local _ .vmem, ⟨0, _⟩ => ⟨S192x6656, .bf16⟩
  | .local _ .vmem, ⟨1, _⟩ => ⟨S256x6656, .i8⟩
  | .local _ .vmem, ⟨2, _⟩ => ⟨S256x6656, .i8⟩
  | .local _ .vmem, ⟨3, _⟩ => ⟨S512x208, .i8⟩
  | .local _ .vmem, ⟨4, _⟩ => ⟨S512x208, .i8⟩
  | .local _ .vmem, ⟨5, _⟩ => ⟨S192x512, .bf16⟩
  | .local _ .vmem, ⟨6, _⟩ => ⟨S192x512, .bf16⟩
  | .local _ .vmem, ⟨7, _⟩ => ⟨S2x2x2x104x128, .i32⟩
  | _, _ => ⟨S192x1x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x6656 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x6656 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x208 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S192x1x6656 : Shape := ⟨3, ![192, 1, 6656]⟩
abbrev S8192x6656 : Shape := ⟨2, ![8192, 6656]⟩
abbrev S16384x208 : Shape := ⟨2, ![16384, 208]⟩
abbrev S8192x2x208 : Shape := ⟨3, ![8192, 2, 208]⟩
abbrev S_ : Shape := ⟨0, ![]⟩
abbrev S8192x1x208 : Shape := ⟨3, ![8192, 1, 208]⟩
abbrev S8192x208 : Shape := ⟨2, ![8192, 208]⟩
abbrev S8192x208x32 : Shape := ⟨3, ![8192, 208, 32]⟩
abbrev S192x1x8192 : Shape := ⟨3, ![192, 1, 8192]⟩
abbrev S192x1x8192x1 : Shape := ⟨4, ![192, 1, 8192, 1]⟩
abbrev S192x1x8192x2 : Shape := ⟨4, ![192, 1, 8192, 2]⟩
abbrev S192x1x16384 : Shape := ⟨3, ![192, 1, 16384]⟩
abbrev S192x16384 : Shape := ⟨2, ![192, 16384]⟩

abbrev nBuf : Space → Nat
  | .hbm => 145
  | .vmem => 0
  | .smem => 0
  | _ => 0

abbrev hbmTy0_0 (i : Nat) : BufTy := match i % 128 with
  | 0 => ⟨S192x1x6656, .bf16⟩
  | 1 => ⟨S8192x6656, .i8⟩
  | 2 => ⟨S16384x208, .i8⟩
  | 3 => ⟨S8192x2x208, .i8⟩
  | 4 => ⟨S8192x6656, .i32⟩
  | 5 => ⟨S_, .i32⟩
  | 6 => ⟨S8192x6656, .i32⟩
  | 7 => ⟨S8192x6656, .i32⟩
  | 8 => ⟨S8192x1x208, .i8⟩
  | 9 => ⟨S8192x208, .i8⟩
  | 10 => ⟨S_, .i32⟩
  | 11 => ⟨S8192x6656, .i32⟩
  | 12 => ⟨S8192x6656, .i32⟩
  | 13 => ⟨S_, .i32⟩
  | 14 => ⟨S8192x6656, .i32⟩
  | 15 => ⟨S8192x6656, .i1⟩
  | 16 => ⟨S_, .i32⟩
  | 17 => ⟨S8192x6656, .i32⟩
  | 18 => ⟨S8192x6656, .i32⟩
  | 19 => ⟨S_, .i32⟩
  | 20 => ⟨S8192x6656, .i32⟩
  | 21 => ⟨S8192x6656, .i1⟩
  | 22 => ⟨S_, .i32⟩
  | 23 => ⟨S8192x6656, .i32⟩
  | 24 => ⟨S8192x6656, .i32⟩
  | 25 => ⟨S_, .i32⟩
  | 26 => ⟨S8192x6656, .i32⟩
  | 27 => ⟨S8192x6656, .i1⟩
  | 28 => ⟨S_, .i32⟩
  | 29 => ⟨S8192x6656, .i32⟩
  | 30 => ⟨S8192x6656, .i32⟩
  | 31 => ⟨S_, .i32⟩
  | 32 => ⟨S8192x6656, .i32⟩
  | 33 => ⟨S8192x6656, .i1⟩
  | 34 => ⟨S_, .bf16⟩
  | 35 => ⟨S_, .bf16⟩
  | 36 => ⟨S8192x6656, .bf16⟩
  | 37 => ⟨S8192x6656, .bf16⟩
  | 38 => ⟨S8192x6656, .bf16⟩
  | 39 => ⟨S_, .bf16⟩
  | 40 => ⟨S_, .bf16⟩
  | 41 => ⟨S8192x6656, .bf16⟩
  | 42 => ⟨S8192x6656, .bf16⟩
  | 43 => ⟨S8192x6656, .bf16⟩
  | 44 => ⟨S_, .bf16⟩
  | 45 => ⟨S_, .bf16⟩
  | 46 => ⟨S8192x6656, .bf16⟩
  | 47 => ⟨S8192x6656, .bf16⟩
  | 48 => ⟨S8192x6656, .bf16⟩
  | 49 => ⟨S_, .bf16⟩
  | 50 => ⟨S_, .bf16⟩
  | 51 => ⟨S8192x6656, .bf16⟩
  | 52 => ⟨S8192x6656, .bf16⟩
  | 53 => ⟨S8192x6656, .bf16⟩
  | 54 => ⟨S8192x6656, .bf16⟩
  | 55 => ⟨S8192x6656, .bf16⟩
  | 56 => ⟨S8192x6656, .bf16⟩
  | 57 => ⟨S8192x6656, .bf16⟩
  | 58 => ⟨S8192x6656, .bf16⟩
  | 59 => ⟨S8192x208, .i32⟩
  | 60 => ⟨S_, .i32⟩
  | 61 => ⟨S8192x208, .i32⟩
  | 62 => ⟨S8192x208, .i32⟩
  | 63 => ⟨S8192x208, .f32⟩
  | 64 => ⟨S_, .f32⟩
  | 65 => ⟨S8192x208, .f32⟩
  | 66 => ⟨S8192x208, .f32⟩
  | 67 => ⟨S8192x208, .bf16⟩
  | 68 => ⟨S8192x208x32, .bf16⟩
  | 69 => ⟨S8192x6656, .bf16⟩
  | 70 => ⟨S8192x6656, .bf16⟩
  | 71 => ⟨S_, .i32⟩
  | 72 => ⟨S8192x6656, .i32⟩
  | 73 => ⟨S8192x6656, .i32⟩
  | 74 => ⟨S8192x1x208, .i8⟩
  | 75 => ⟨S8192x208, .i8⟩
  | 76 => ⟨S_, .i32⟩
  | 77 => ⟨S8192x6656, .i32⟩
  | 78 => ⟨S8192x6656, .i32⟩
  | 79 => ⟨S_, .i32⟩
  | 80 => ⟨S8192x6656, .i32⟩
  | 81 => ⟨S8192x6656, .i1⟩
  | 82 => ⟨S_, .i32⟩
  | 83 => ⟨S8192x6656, .i32⟩
  | 84 => ⟨S8192x6656, .i32⟩
  | 85 => ⟨S_, .i32⟩
  | 86 => ⟨S8192x6656, .i32⟩
  | 87 => ⟨S8192x6656, .i1⟩
  | 88 => ⟨S_, .i32⟩
  | 89 => ⟨S8192x6656, .i32⟩
  | 90 => ⟨S8192x6656, .i32⟩
  | 91 => ⟨S_, .i32⟩
  | 92 => ⟨S8192x6656, .i32⟩
  | 93 => ⟨S8192x6656, .i1⟩
  | 94 => ⟨S_, .i32⟩
  | 95 => ⟨S8192x6656, .i32⟩
  | 96 => ⟨S8192x6656, .i32⟩
  | 97 => ⟨S_, .i32⟩
  | 98 => ⟨S8192x6656, .i32⟩
  | 99 => ⟨S8192x6656, .i1⟩
  | 100 => ⟨S_, .bf16⟩
  | 101 => ⟨S_, .bf16⟩
  | 102 => ⟨S8192x6656, .bf16⟩
  | 103 => ⟨S8192x6656, .bf16⟩
  | 104 => ⟨S8192x6656, .bf16⟩
  | 105 => ⟨S_, .bf16⟩
  | 106 => ⟨S_, .bf16⟩
  | 107 => ⟨S8192x6656, .bf16⟩
  | 108 => ⟨S8192x6656, .bf16⟩
  | 109 => ⟨S8192x6656, .bf16⟩
  | 110 => ⟨S_, .bf16⟩
  | 111 => ⟨S_, .bf16⟩
  | 112 => ⟨S8192x6656, .bf16⟩
  | 113 => ⟨S8192x6656, .bf16⟩
  | 114 => ⟨S8192x6656, .bf16⟩
  | 115 => ⟨S_, .bf16⟩
  | 116 => ⟨S_, .bf16⟩
  | 117 => ⟨S8192x6656, .bf16⟩
  | 118 => ⟨S8192x6656, .bf16⟩
  | 119 => ⟨S8192x6656, .bf16⟩
  | 120 => ⟨S8192x6656, .bf16⟩
  | 121 => ⟨S8192x6656, .bf16⟩
  | 122 => ⟨S8192x6656, .bf16⟩
  | 123 => ⟨S8192x6656, .bf16⟩
  | 124 => ⟨S8192x6656, .bf16⟩
  | 125 => ⟨S8192x208, .i32⟩
  | 126 => ⟨S_, .i32⟩
  | 127 => ⟨S8192x208, .i32⟩
  | _ => ⟨S192x1x6656, .bf16⟩

abbrev hbmTy0_1 (i : Nat) : BufTy := match i % 128 with
  | 0 => ⟨S8192x208, .i32⟩
  | 1 => ⟨S8192x208, .f32⟩
  | 2 => ⟨S_, .f32⟩
  | 3 => ⟨S8192x208, .f32⟩
  | 4 => ⟨S8192x208, .f32⟩
  | 5 => ⟨S8192x208, .bf16⟩
  | 6 => ⟨S8192x208x32, .bf16⟩
  | 7 => ⟨S8192x6656, .bf16⟩
  | 8 => ⟨S8192x6656, .bf16⟩
  | 9 => ⟨S192x1x8192, .f32⟩
  | 10 => ⟨S192x1x8192, .f32⟩
  | 11 => ⟨S192x1x8192x1, .f32⟩
  | 12 => ⟨S192x1x8192x1, .f32⟩
  | 13 => ⟨S192x1x8192x2, .f32⟩
  | 14 => ⟨S192x1x16384, .f32⟩
  | 15 => ⟨S192x1x16384, .bf16⟩
  | 16 => ⟨S192x16384, .bf16⟩
  | _ => ⟨S192x1x6656, .bf16⟩

abbrev hbmTy (i : Nat) : BufTy := match i / 128 with
  | 0 => hbmTy0_0 i
  | 1 => hbmTy0_1 i
  | _ => ⟨S192x1x6656, .bf16⟩

abbrev bufTy : (tb : Table) → Fin (tcTables nBuf tb) → BufTy
  | .hbm, ⟨i, _⟩ => hbmTy i
  | _, _ => ⟨S192x1x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_c_6 : Ref sig .tc := ⟨.hbm, 28, rfl⟩
abbrev main_v18 : Ref sig .tc := ⟨.hbm, 29, rfl⟩
abbrev main_v19 : Ref sig .tc := ⟨.hbm, 30, rfl⟩
abbrev main_c_7 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_cst_8 : Ref sig .tc := ⟨.hbm, 35, rfl⟩
abbrev main_call0_v0 : Ref sig .tc := ⟨.hbm, 36, rfl⟩
abbrev main_call0_v1 : Ref sig .tc := ⟨.hbm, 37, rfl⟩
abbrev main_v22 : Ref sig .tc := ⟨.hbm, 38, rfl⟩
abbrev main_cst_9 : Ref sig .tc := ⟨.hbm, 39, rfl⟩
abbrev main_cst_10 : Ref sig .tc := ⟨.hbm, 40, rfl⟩
abbrev main_call1_v0 : Ref sig .tc := ⟨.hbm, 41, rfl⟩
abbrev main_call1_v1 : Ref sig .tc := ⟨.hbm, 42, rfl⟩
abbrev main_v23 : Ref sig .tc := ⟨.hbm, 43, rfl⟩
abbrev main_cst_11 : Ref sig .tc := ⟨.hbm, 44, rfl⟩
abbrev main_cst_12 : Ref sig .tc := ⟨.hbm, 45, rfl⟩
abbrev main_call2_v0 : Ref sig .tc := ⟨.hbm, 46, rfl⟩
abbrev main_call2_v1 : Ref sig .tc := ⟨.hbm, 47, rfl⟩
abbrev main_v24 : Ref sig .tc := ⟨.hbm, 48, rfl⟩
abbrev main_cst_13 : Ref sig .tc := ⟨.hbm, 49, rfl⟩
abbrev main_cst_14 : Ref sig .tc := ⟨.hbm, 50, rfl⟩
abbrev main_call3_v0 : Ref sig .tc := ⟨.hbm, 51, rfl⟩
abbrev main_call3_v1 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_15 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_16 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_17 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_18 : Ref sig .tc := ⟨.hbm, 76, rfl⟩
abbrev main_v45 : Ref sig .tc := ⟨.hbm, 77, rfl⟩
abbrev main_v46 : Ref sig .tc := ⟨.hbm, 78, rfl⟩
abbrev main_c_19 : Ref sig .tc := ⟨.hbm, 79, rfl⟩
abbrev main_v47 : Ref sig .tc := ⟨.hbm, 80, rfl⟩
abbrev main_v48 : Ref sig .tc := ⟨.hbm, 81, rfl⟩
abbrev main_c_20 : Ref sig .tc := ⟨.hbm, 82, rfl⟩
abbrev main_v49 : Ref sig .tc := ⟨.hbm, 83, rfl⟩
abbrev main_v50 : Ref sig .tc := ⟨.hbm, 84, rfl⟩
abbrev main_c_21 : Ref sig .tc := ⟨.hbm, 85, rfl⟩
abbrev main_v51 : Ref sig .tc := ⟨.hbm, 86, rfl⟩
abbrev main_v52 : Ref sig .tc := ⟨.hbm, 87, rfl⟩
abbrev main_c_22 : Ref sig .tc := ⟨.hbm, 88, rfl⟩
abbrev main_v53 : Ref sig .tc := ⟨.hbm, 89, rfl⟩
abbrev main_v54 : Ref sig .tc := ⟨.hbm, 90, rfl⟩
abbrev main_c_23 : Ref sig .tc := ⟨.hbm, 91, rfl⟩
abbrev main_v55 : Ref sig .tc := ⟨.hbm, 92, rfl⟩
abbrev main_v56 : Ref sig .tc := ⟨.hbm, 93, rfl⟩
abbrev main_c_24 : Ref sig .tc := ⟨.hbm, 94, rfl⟩
abbrev main_v57 : Ref sig .tc := ⟨.hbm, 95, rfl⟩
abbrev main_v58 : Ref sig .tc := ⟨.hbm, 96, rfl⟩
abbrev main_c_25 : Ref sig .tc := ⟨.hbm, 97, rfl⟩
abbrev main_v59 : Ref sig .tc := ⟨.hbm, 98, rfl⟩
abbrev main_v60 : Ref sig .tc := ⟨.hbm, 99, rfl⟩
abbrev main_cst_26 : Ref sig .tc := ⟨.hbm, 100, rfl⟩
abbrev main_cst_27 : Ref sig .tc := ⟨.hbm, 101, rfl⟩
abbrev main_call8_v0 : Ref sig .tc := ⟨.hbm, 102, rfl⟩
abbrev main_call8_v1 : Ref sig .tc := ⟨.hbm, 103, rfl⟩
abbrev main_v61 : Ref sig .tc := ⟨.hbm, 104, rfl⟩
abbrev main_cst_28 : Ref sig .tc := ⟨.hbm, 105, rfl⟩
abbrev main_cst_29 : Ref sig .tc := ⟨.hbm, 106, rfl⟩
abbrev main_call9_v0 : Ref sig .tc := ⟨.hbm, 107, rfl⟩
abbrev main_call9_v1 : Ref sig .tc := ⟨.hbm, 108, rfl⟩
abbrev main_v62 : Ref sig .tc := ⟨.hbm, 109, rfl⟩
abbrev main_cst_30 : Ref sig .tc := ⟨.hbm, 110, rfl⟩
abbrev main_cst_31 : Ref sig .tc := ⟨.hbm, 111, rfl⟩
abbrev main_call10_v0 : Ref sig .tc := ⟨.hbm, 112, rfl⟩
abbrev main_call10_v1 : Ref sig .tc := ⟨.hbm, 113, rfl⟩
abbrev main_v63 : Ref sig .tc := ⟨.hbm, 114, rfl⟩
abbrev main_cst_32 : Ref sig .tc := ⟨.hbm, 115, rfl⟩
abbrev main_cst_33 : Ref sig .tc := ⟨.hbm, 116, rfl⟩
abbrev main_call11_v0 : Ref sig .tc := ⟨.hbm, 117, rfl⟩
abbrev main_call11_v1 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_c_34 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_cst_35 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩

abbrev nD : Nat := 1
abbrev τ : Topo := Topo.v7x

variable {F : FTy → Type} [FloatOps F]
-- ==== Proof.Frames.lean ====
/- The frames of the three programs, and the statement of the rewrites between the kernel and its idealization. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Bf16Pair
public import Idealize.ShloMosaic.Lib.Quiescent

@[expose] public section

noncomputable section

namespace Cert.Proof

open Idealize.ShloMosaic Idealize.ShloMosaic.TcCoe Idealize.SL.Sem

/-- The kernel runs at bit patterns, leaves its arguments unchanged and every counter at zero. -/
theorem kernel_quiescent : Cert.quiescent_Kernel (hKernel := Cert.Kernel.Gen.facts) :=
  fun m g _ => Cert.Kernel.Gen.frame m g

/-- The idealized kernel runs, leaves its arguments unchanged and every counter at zero. -/
theorem kernelIdeal_quiescent : Cert.quiescent_KernelIdeal (hKernelIdeal := Cert.KernelIdeal.Gen.facts) :=
  fun m g _ => Cert.KernelIdeal.Gen.frame m g

/-- The reference runs, leaves its arguments unchanged and every counter at zero. -/
theorem referenceIdeal_quiescent :
    Cert.quiescent_ReferenceIdeal (hReferenceIdeal := Cert.ReferenceIdeal.Gen.facts) :=
  fun m g _ => (θ_run (Cert.ReferenceIdeal.defs (F := Ideal)) _ _).mono
    (fun r h => ⟨fun c => ⟨(h c).2.1, (h c).2.2.1, (h c).2.2.2⟩,
      Idealize.ShloMosaic.sem_eq_zero_of_no_sems (by decide) r.2⟩)
    (Cert.ReferenceIdeal.Value.run m g)

/-- The rewrites of the idealization: the two packs and the two reads of packed rows. -/
theorem preserves : Cert.preserves_Kernel_KernelIdeal :=
  ⟨IdealRules.bf16_pair.packStatement _, IdealRules.bf16_pair.statement _ _⟩

end Cert.Proof

end
-- ==== Proof.Tile.lean ====
/- One tile of the kernel's contraction, named, and the accumulator after each of the 26 tiles as the accumulator
   before it plus that tile's product. The body's run names every value it computes; here the values of a tile are one
   function of the tile's loads, and each of the 26 equations is by definition. -/
module

public import proofs.«01_k».proof.Proof.Gen.KernelIdeal.Value

@[expose] public section

noncomputable section

namespace Cert.Proof

open Cert.KernelIdeal Cert.KernelIdeal.Gen Idealize.ShloMosaic

variable {F : FTy → Type} [FloatOps F]

/-- The codes of 128 row pairs over 256 inputs, transposed to inputs × pairs, four inputs to a word. -/
def codeWords (v : Vec F S128x256 .i8) : IVec S64x128 32 :=
  bitcast S64x128 32 (transpose S256x128 [1, 0] v transposes_S128x256_p1_0_S256x128) bitcasts_S256x128_w8_S64x128_w32

/-- The low four bits of every byte, as the bytes of an 8-bit float: the sign bit at bit 7, the magnitude at bits 2–4. -/
def evenWords (w : IVec S64x128 32) : IVec S64x128 32 :=
  ori (shli (andi w (broadcast S64x128 134744072#32)) (broadcast S64x128 4#32))
    (shli (andi w (broadcast S64x128 117901063#32)) (broadcast S64x128 2#32))

/-- The high four bits of every byte, as the bytes of an 8-bit float: the sign bit at bit 7, the magnitude at bits 2–4. -/
def oddWords (w : IVec S64x128 32) : IVec S64x128 32 :=
  ori (andi w (broadcast S64x128 2155905152#32))
    (shrui (andi w (broadcast S64x128 1886417008#32)) (broadcast S64x128 2#32))

/-- Words of four bytes read as 8-bit floats, one per input. -/
def bytesValue (w : IVec S64x128 32) : FVec F S256x128 .bf16 :=
  extf .bf16 (bitcastToFloat .fp8e4m3 (bitcast S256x128 8 w bitcasts_S64x128_w32_S256x128_w8)) bitsLt_fp8e4m3_bf16

/-- One row of scale words, repeated for the 16 word rows (32 inputs) it scales. -/
def scaleRow (v : Vec F S1x1x1x1x128 .i32) : IVec S16x128 32 :=
  broadcastTo S16x128 (shapeCast S1x128 (shapeCast S1x128 v shapeCasts_S1x1x1x1x128_S1x128) shapeCasts_S1x128_S1x128)
    broadcasts_S1x128_S16x128

/-- Eight rows of scale words, as the scales of 256 inputs. -/
def scaleTile (s : Fin 8 → Vec F S1x1x1x1x128 .i32) : FVec F S256x128 .bf16 :=
  bitcastToFloat .bf16 (bitcast S256x128 16
    (concatenate S128x128 0 [⟨S16x128, scaleRow (s 0)⟩, ⟨S16x128, scaleRow (s 1)⟩, ⟨S16x128, scaleRow (s 2)⟩,
      ⟨S16x128, scaleRow (s 3)⟩, ⟨S16x128, scaleRow (s 4)⟩, ⟨S16x128, scaleRow (s 5)⟩, ⟨S16x128, scaleRow (s 6)⟩,
      ⟨S16x128, scaleRow (s 7)⟩]
      concatenates_S16x128_S16x128_S16x128_S16x128_S16x128_S16x128_S16x128_S16x128_S128x128_d0)
    bitcasts_S128x128_w32_S256x128_w16)

/-- The weights of a tile: for each of the two groups of row pairs its even rows, then its odd rows. -/
def tileWeights (v : Fin 2 → Vec F S128x256 .i8) (s : Fin 2 → Fin 2 → Fin 8 → Vec F S1x1x1x1x128 .i32) :
    FVec F S256x512 .bf16 :=
  concatenate S256x512 1
    [⟨S256x128, mulf (bytesValue (F := F) (evenWords (codeWords (F := F) (v 0)))) (scaleTile (F := F) (s 0 0))⟩,
     ⟨S256x128, mulf (bytesValue (F := F) (oddWords (codeWords (F := F) (v 0)))) (scaleTile (F := F) (s 0 1))⟩,
     ⟨S256x128, mulf (bytesValue (F := F) (evenWords (codeWords (F := F) (v 1)))) (scaleTile (F := F) (s 1 0))⟩,
     ⟨S256x128, mulf (bytesValue (F := F) (oddWords (codeWords (F := F) (v 1)))) (scaleTile (F := F) (s 1 1))⟩]
    concatenates_S256x128_S256x128_S256x128_S256x128_S256x512_d1

/-- A tile's product: its inputs times its weights. -/
def tileProduct (x : Vec F S192x256 .bf16) (v : Fin 2 → Vec F S128x256 .i8)
    (s : Fin 2 → Fin 2 → Fin 8 → Vec F S1x1x1x1x128 .i32) : FVec F S192x512 .f32 :=
  matmul dot_S192x256_S256x512_S192x512_1_0_0_1_n_n none (shapeCast S192x256 x shapeCasts_S192x256_S192x256)
    (tileWeights v s) (constant S192x512 .f32 0x00000000#32)

section
variable (c : Dev nD) (arg1 : Memref sig .tc .vmem S192x6656 .bf16) (h1 : arg1.IsWhole)
  (arg2 : Memref sig .tc .vmem S256x6656 .i8) (h2 : arg2.IsWhole)
  (arg3 : Memref sig .tc .vmem S512x208 .i8) (h3 : arg3.IsWhole)
  (arg5 : Memref sig .tc .vmem S2x2x2x104x128 .i32)
  (x0 : Vec F S192x6656 .bf16) (x1 : Vec F S256x6656 .i8) (x2 : Vec F S512x208 .i8)

theorem inbX (t : Fin 26) : ∀ a, (![0, 256 * t.val] : Fin 2 → Nat) a + S192x256.size a ≤ S192x6656.size a :=
  Rect.inb₂ (by simp) (by have := t.isLt; simp; omega)

theorem inbC (g : Fin 2) (t : Fin 26) :
    ∀ a, (![128 * g.val, 256 * t.val] : Fin 2 → Nat) a + S128x256.size a ≤ S256x6656.size a :=
  Rect.inb₂ (by have := g.isLt; simp; omega) (by have := t.isLt; simp; omega)

theorem inbS (g p : Fin 2) (b : Nat) (hb : b < 208) : ∀ a, (![g.val, p.val, b % 2, b / 2, 0] : Fin 5 → Nat) a
    + S1x1x1x1x128.size a ≤ S2x2x2x104x128.size a := by
  have := g.isLt; have := p.isLt
  intro a
  fin_cases a <;> simp <;> omega

/-- The inputs tile `t` loads. -/
def xLoad (t : Fin 26) : Vec F S192x256 .bf16 :=
  View.readAt (Elt F) arg1.view (Rect.unit (s := S192x6656) ![0, 256 * t.val] S192x256.size (inbX t)).toLoadRect (h1.unread x0)

/-- The codes tile `t` loads for group `g` of row pairs. -/
def cLoad (g : Fin 2) (t : Fin 26) : Vec F S128x256 .i8 :=
  View.readAt (Elt F) arg2.view (Rect.unit (s := S256x6656) ![128 * g.val, 256 * t.val] S128x256.size (inbC g t)).toLoadRect (h2.unread x1)

/-- The row of scale words loaded for group `g`, parity `p` and block `b` of 32 inputs. -/
def sLoad (g p : Fin 2) (b : Nat) (hb : b < 208) : Vec F S1x1x1x1x128 .i32 :=
  View.readCov arg5.view (kernelRun0_A.sl.HS0_8 (F := F) c arg3 h3 x2)
    (Rect.unit (s := S2x2x2x104x128) ![g.val, p.val, b % 2, b / 2, 0] S1x1x1x1x128.size (inbS g p b hb)).toLoadRect

/-- The product of tile `t`, of what it loads. -/
def tile (t : Fin 26) : FVec F S192x512 .f32 :=
  tileProduct (xLoad arg1 h1 x0 t) (fun g => cLoad arg2 h2 x1 g t)
    (fun g p b => sLoad c arg3 h3 arg5 x2 g p (8 * t.val + b.val) (by have := t.isLt; have := b.isLt; omega))

/-- The accumulator after tile 0 is the product of tile 0. -/
theorem acc_0 : kernelRun0_A.sl.r_25 c arg1 h1 arg2 h2 arg3 h3 arg5 x0 x1 x2 = tile c arg1 h1 arg2 h2 arg3 h3 arg5 x0 x1 x2 0 := by
  rfl

/-- The accumulator after tile 1. -/
theorem acc_1 : kernelRun0_A.sl.r_43 c arg1 h1 arg2 h2 arg3 h3 arg5 x0 x1 x2 = addf (kernelRun0_A.sl.r_25 c arg1 h1 arg2 h2 arg3 h3 arg5 x0 x1 x2) (tile c arg1 h1 arg2 h2 arg3 h3 arg5 x0 x1 x2 1) := by
  rfl

/-- The accumulator after tile 2. -/
theorem acc_2 : kernelRun0_A.sl.r_57 c arg1 h1 arg2 h2 arg3 h3 arg5 x0 x1 x2 = addf (kernelRun0_A.sl.r_43 c arg1 h1 arg2 h2 arg3 h3 arg5 x0 x1 x2) (tile c arg1 h1 arg2 h2 arg3 h3 arg5 x0 x1 x2 2) := by
  rfl

/-- The accumulator after tile 3. -/
theorem acc_3 : kernelRun0_A.sl.r_78 c arg1 h1 arg2 h2 arg3 h3 arg5 x0 x1 x2 = addf (kernelRun0_A.sl.r_57 c arg1 h1 arg2 h2 arg3 h3 arg5 x0 x1 x2) (tile c arg1 h1 arg2 h2 arg3 h3 arg5 x0 x1 x2 3) := by
  rfl

/-- The accumulator after tile 4. -/
theorem acc_4 : kernelRun0_A.sl.r_114 c arg1 h1 arg2 h2 arg3 h3 arg5 x0 x1 x2 = addf (kernelRun0_A.sl.r_78 c arg1 h1 arg2 h2 arg3 h3 arg5 x0 x1 x2) (tile c arg1 h1 arg2 h2 arg3 h3 arg5 x0 x1 x2 4) := by
  rfl

/-- The accumulator after tile 5. -/
theorem acc_5 : kernelRun0_A.sl.r_144 c arg1 h1 arg2 h2 arg3 h3 arg5 x0 x1 x2 = addf (kernelRun0_A.sl.r_114 c arg1 h1 arg2 h2 arg3 h3 arg5 x0 x1 x2) (tile c arg1 h1 arg2 h2 arg3 h3 arg5 x0 x1 x2 5) := by
  rfl

/-- The accumulator after tile 6. -/
theorem acc_6 : kernelRun0_A.sl.r_162 c arg1 h1 arg2 h2 arg3 h3 arg5 x0 x1 x2 = addf (kernelRun0_A.sl.r_144 c arg1 h1 arg2 h2 arg3 h3 arg5 x0 x1 x2) (tile c arg1 h1 arg2 h2 arg3 h3 arg5 x0 x1 x2 6) := by
  rfl

/-- The accumulator after tile 7. -/
theorem acc_7 : kernelRun0_A.sl.r_176 c arg1 h1 arg2 h2 arg3 h3 arg5 x0 x1 x2 = addf (kernelRun0_A.sl.r_162 c arg1 h1 arg2 h2 arg3 h3 arg5 x0 x1 x2) (tile c arg1 h1 arg2 h2 arg3 h3 arg5 x0 x1 x2 7) := by
  rfl

/-- The accumulator after tile 8. -/
theorem acc_8 : kernelRun0_A.sl.r_197 c arg1 h1 arg2 h2 arg3 h3 arg5 x0 x1 x2 = addf (kernelRun0_A.sl.r_176 c arg1 h1 arg2 h2 arg3 h3 arg5 x0 x1 x2) (tile c arg1 h1 arg2 h2 arg3 h3 arg5 x0 x1 x2 8) := by
  rfl

/-- The accumulator after tile 9. -/
theorem acc_9 : kernelRun0_A.sl.r_233 c arg1 h1 arg2 h2 arg3 h3 arg5 x0 x1 x2 = addf (kernelRun0_A.sl.r_197 c arg1 h1 arg2 h2 arg3 h3 arg5 x0 x1 x2) (tile c arg1 h1 arg2 h2 arg3 h3 arg5 x0 x1 x2 9) := by
  rfl

/-- The accumulator after tile 10. -/
theorem acc_10 : kernelRun0_A.sl.r_263 c arg1 h1 arg2 h2 arg3 h3 arg5 x0 x1 x2 = addf (kernelRun0_A.sl.r_233 c arg1 h1 arg2 h2 arg3 h3 arg5 x0 x1 x2) (tile c arg1 h1 arg2 h2 arg3 h3 arg5 x0 x1 x2 10) := by
  rfl

/-- The accumulator after tile 11. -/
theorem acc_11 : kernelRun0_A.sl.r_281 c arg1 h1 arg2 h2 arg3 h3 arg5 x0 x1 x2 = addf (kernelRun0_A.sl.r_263 c arg1 h1 arg2 h2 arg3 h3 arg5 x0 x1 x2) (tile c arg1 h1 arg2 h2 arg3 h3 arg5 x0 x1 x2 11) := by
  rfl

/-- The accumulator after tile 12. -/
theorem acc_12 : kernelRun0_A.sl.r_295 c arg1 h1 arg2 h2 arg3 h3 arg5 x0 x1 x2 = addf (kernelRun0_A.sl.r_281 c arg1 h1 arg2 h2 arg3 h3 arg5 x0 x1 x2) (tile c arg1 h1 arg2 h2 arg3 h3 arg5 x0 x1 x2 12) := by
  rfl

/-- The accumulator after tile 13. -/
theorem acc_13 : kernelRun0_A.sl.r_316 c arg1 h1 arg2 h2 arg3 h3 arg5 x0 x1 x2 = addf (kernelRun0_A.sl.r_295 c arg1 h1 arg2 h2 arg3 h3 arg5 x0 x1 x2) (tile c arg1 h1 arg2 h2 arg3 h3 arg5 x0 x1 x2 13) := by
  rfl

/-- The accumulator after tile 14. -/
theorem acc_14 : kernelRun0_A.sl.r_352 c arg1 h1 arg2 h2 arg3 h3 arg5 x0 x1 x2 = addf (kernelRun0_A.sl.r_316 c arg1 h1 arg2 h2 arg3 h3 arg5 x0 x1 x2) (tile c arg1 h1 arg2 h2 arg3 h3 arg5 x0 x1 x2 14) := by
  rfl

/-- The accumulator after tile 15. -/
theorem acc_15 : kernelRun0_A.sl.r_382 c arg1 h1 arg2 h2 arg3 h3 arg5 x0 x1 x2 = addf (kernelRun0_A.sl.r_352 c arg1 h1 arg2 h2 arg3 h3 arg5 x0 x1 x2) (tile c arg1 h1 arg2 h2 arg3 h3 arg5 x0 x1 x2 15) := by
  rfl

/-- The accumulator after tile 16. -/
theorem acc_16 : kernelRun0_A.sl.r_400 c arg1 h1 arg2 h2 arg3 h3 arg5 x0 x1 x2 = addf (kernelRun0_A.sl.r_382 c arg1 h1 arg2 h2 arg3 h3 arg5 x0 x1 x2) (tile c arg1 h1 arg2 h2 arg3 h3 arg5 x0 x1 x2 16) := by
  rfl

/-- The accumulator after tile 17. -/
theorem acc_17 : kernelRun0_A.sl.r_414 c arg1 h1 arg2 h2 arg3 h3 arg5 x0 x1 x2 = addf (kernelRun0_A.sl.r_400 c arg1 h1 arg2 h2 arg3 h3 arg5 x0 x1 x2) (tile c arg1 h1 arg2 h2 arg3 h3 arg5 x0 x1 x2 17) := by
  rfl

/-- The accumulator after tile 18. -/
theorem acc_18 : kernelRun0_A.sl.r_435 c arg1 h1 arg2 h2 arg3 h3 arg5 x0 x1 x2 = addf (kernelRun0_A.sl.r_414 c arg1 h1 arg2 h2 arg3 h3 arg5 x0 x1 x2) (tile c arg1 h1 arg2 h2 arg3 h3 arg5 x0 x1 x2 18) := by
  rfl

/-- The accumulator after tile 19. -/
theorem acc_19 : kernelRun0_A.sl.r_471 c arg1 h1 arg2 h2 arg3 h3 arg5 x0 x1 x2 = addf (kernelRun0_A.sl.r_435 c arg1 h1 arg2 h2 arg3 h3 arg5 x0 x1 x2) (tile c arg1 h1 arg2 h2 arg3 h3 arg5 x0 x1 x2 19) := by
  rfl

/-- The accumulator after tile 20. -/
theorem acc_20 : kernelRun0_A.sl.r_501 c arg1 h1 arg2 h2 arg3 h3 arg5 x0 x1 x2 = addf (kernelRun0_A.sl.r_471 c arg1 h1 arg2 h2 arg3 h3 arg5 x0 x1 x2) (tile c arg1 h1 arg2 h2 arg3 h3 arg5 x0 x1 x2 20) := by
  rfl

/-- The accumulator after tile 21. -/
theorem acc_21 : kernelRun0_A.sl.r_519 c arg1 h1 arg2 h2 arg3 h3 arg5 x0 x1 x2 = addf (kernelRun0_A.sl.r_501 c arg1 h1 arg2 h2 arg3 h3 arg5 x0 x1 x2) (tile c arg1 h1 arg2 h2 arg3 h3 arg5 x0 x1 x2 21) := by
  rfl

/-- The accumulator after tile 22. -/
theorem acc_22 : kernelRun0_A.sl.r_533 c arg1 h1 arg2 h2 arg3 h3 arg5 x0 x1 x2 = addf (kernelRun0_A.sl.r_519 c arg1 h1 arg2 h2 arg3 h3 arg5 x0 x1 x2) (tile c arg1 h1 arg2 h2 arg3 h3 arg5 x0 x1 x2 22) := by
  rfl

/-- The accumulator after tile 23. -/
theorem acc_23 : kernelRun0_A.sl.r_554 c arg1 h1 arg2 h2 arg3 h3 arg5 x0 x1 x2 = addf (kernelRun0_A.sl.r_533 c arg1 h1 arg2 h2 arg3 h3 arg5 x0 x1 x2) (tile c arg1 h1 arg2 h2 arg3 h3 arg5 x0 x1 x2 23) := by
  rfl

/-- The accumulator after tile 24. -/
theorem acc_24 : kernelRun0_A.sl.r_590 c arg1 h1 arg2 h2 arg3 h3 arg5 x0 x1 x2 = addf (kernelRun0_A.sl.r_554 c arg1 h1 arg2 h2 arg3 h3 arg5 x0 x1 x2) (tile c arg1 h1 arg2 h2 arg3 h3 arg5 x0 x1 x2 24) := by
  rfl

/-- The accumulator after tile 25. -/
theorem acc_25 : kernelRun0_A.sl.r_620 c arg1 h1 arg2 h2 arg3 h3 arg5 x0 x1 x2 = addf (kernelRun0_A.sl.r_590 c arg1 h1 arg2 h2 arg3 h3 arg5 x0 x1 x2) (tile c arg1 h1 arg2 h2 arg3 h3 arg5 x0 x1 x2 25) := by
  rfl

end

end Cert.Proof

end
-- ==== Proof.Words.lean ====
/- The word arithmetic of the kernel, byte by byte: a bit-cast between bytes (halves) and words read at an index, a byte
   of a code word with its nibble spread to an 8-bit float, and a half of a scale word. -/
module

public import proofs.«01_k».proof.Proof.Tile
public import Idealize.ShloMosaic.Lib.BitcastPair
public import Idealize.ShloMosaic.Lib.BitcastFour
public import Idealize.ShloMosaic.Lib.Pointwise

@[expose] public section

noncomputable section

namespace Cert.Proof

open Idealize.ShloMosaic

/-! ## Bit-casts at an index -/

section
variable {R r n : Nat}

/-- A matrix of words bit-cast to bytes: row `a` is byte `a % 4` of word row `a / 4`. -/
theorem bitcast_32_8_ix2 (x : (⟨2, ![r, n]⟩ : Shape).Idx → BitVec 32)
    (h : (⟨2, ![r, n]⟩ : Shape).Bitcasts 32 ⟨2, ![R, n]⟩ 8) (a : Fin R) (l : Fin n) (p : Fin r) (hp : p.val = a.val / 4) :
    bitcast ⟨2, ![R, n]⟩ 8 x h (ix2 a l) = (x (ix2 p l)).extractLsb' (8 * (a.val % 4)) 8 := by
  apply BitVec.eq_of_getLsbD_eq
  intro i hi
  rw [bitcast_getLsbD x h _ i hi (by decide), BitVec.getLsbD_extractLsb']
  have er : (⟨2, ![R, n]⟩ : Shape).row (ix2 a l) = a.val := rfl
  have eq : ((⟨2, ![R, n]⟩ : Shape).row (ix2 a l) * 8 + i) % 32 = 8 * (a.val % 4) + i := by rw [er]; omega
  rw [eq]
  simp only [hi, decide_true, Bool.true_and]
  congr 2
  funext c
  match c with
  | ⟨0, _⟩ =>
    refine Fin.ext ((h.srcIdx_row _ _ _ ⟨0, Nat.zero_lt_two⟩ rfl).trans ?_)
    show _ = p.val
    rw [er]; omega
  | ⟨1, _⟩ => exact Fin.ext (h.srcIdx_other _ _ _ ⟨1, Nat.one_lt_two⟩ (by show ¬ 1 + 2 = 2; omega))

/-- A matrix of words bit-cast to halves: row `a` is half `a % 2` of word row `a / 2`. -/
theorem bitcast_32_16_ix2 (x : (⟨2, ![r, n]⟩ : Shape).Idx → BitVec 32)
    (h : (⟨2, ![r, n]⟩ : Shape).Bitcasts 32 ⟨2, ![R, n]⟩ 16) (a : Fin R) (l : Fin n) (p : Fin r) (hp : p.val = a.val / 2) :
    bitcast ⟨2, ![R, n]⟩ 16 x h (ix2 a l) = (x (ix2 p l)).extractLsb' (16 * (a.val % 2)) 16 := by
  apply BitVec.eq_of_getLsbD_eq
  intro i hi
  rw [bitcast_getLsbD x h _ i hi (by decide), BitVec.getLsbD_extractLsb']
  have er : (⟨2, ![R, n]⟩ : Shape).row (ix2 a l) = a.val := rfl
  have eq : ((⟨2, ![R, n]⟩ : Shape).row (ix2 a l) * 16 + i) % 32 = 16 * (a.val % 2) + i := by rw [er]; omega
  rw [eq]
  simp only [hi, decide_true, Bool.true_and]
  congr 2
  funext c
  match c with
  | ⟨0, _⟩ =>
    refine Fin.ext ((h.srcIdx_row _ _ _ ⟨0, Nat.zero_lt_two⟩ rfl).trans ?_)
    show _ = p.val
    rw [er]; omega
  | ⟨1, _⟩ => exact Fin.ext (h.srcIdx_other _ _ _ ⟨1, Nat.one_lt_two⟩ (by show ¬ 1 + 2 = 2; omega))

/-- A matrix of bytes bit-cast to words: byte `k` of word row `a` is source row `4a + k`. -/
theorem bitcast_8_32_ix2 (x : (⟨2, ![R, n]⟩ : Shape).Idx → BitVec 8)
    (h : (⟨2, ![R, n]⟩ : Shape).Bitcasts 8 ⟨2, ![r, n]⟩ 32) (a : Fin r) (l : Fin n) (k : Nat) (hk : k < 4) (p : Fin R)
    (hp : p.val = 4 * a.val + k) :
    (bitcast ⟨2, ![r, n]⟩ 32 x h (ix2 a l)).extractLsb' (8 * k) 8 = x (ix2 p l) := by
  apply BitVec.eq_of_getLsbD_eq
  intro i hi
  rw [BitVec.getLsbD_extractLsb', bitcast_8_32_getLsbD x h _ _ (by omega)]
  have eq : (8 * k + i) % 8 = i := by omega
  rw [eq]
  simp only [hi, decide_true, Bool.true_and]
  congr 2
  funext c
  match c with
  | ⟨0, _⟩ =>
    refine Fin.ext ((h.srcIdx_row _ _ _ ⟨0, Nat.zero_lt_two⟩ rfl).trans ?_)
    show 4 * a.val + (8 * k + i) / 8 = p.val
    omega
  | ⟨1, _⟩ => exact Fin.ext (h.srcIdx_other _ _ _ ⟨1, Nat.one_lt_two⟩ (by show ¬ 1 + 2 = 2; omega))

/-- A matrix of halves bit-cast to words: half `k` of word row `a` is source row `2a + k`. -/
theorem bitcast_16_32_ix2 (x : (⟨2, ![R, n]⟩ : Shape).Idx → BitVec 16)
    (h : (⟨2, ![R, n]⟩ : Shape).Bitcasts 16 ⟨2, ![r, n]⟩ 32) (a : Fin r) (l : Fin n) (k : Nat) (hk : k < 2) (p : Fin R)
    (hp : p.val = 2 * a.val + k) :
    (bitcast ⟨2, ![r, n]⟩ 32 x h (ix2 a l)).extractLsb' (16 * k) 16 = x (ix2 p l) := by
  apply BitVec.eq_of_getLsbD_eq
  intro i hi
  rw [BitVec.getLsbD_extractLsb', bitcast_getLsbD x h _ _ (by omega) (by decide)]
  have er : (⟨2, ![r, n]⟩ : Shape).row (ix2 a l) = a.val := rfl
  have eq : ((⟨2, ![r, n]⟩ : Shape).row (ix2 a l) * 32 + (16 * k + i)) % 16 = i := by rw [er]; omega
  rw [eq]
  simp only [hi, decide_true, Bool.true_and]
  congr 2
  funext c
  match c with
  | ⟨0, _⟩ =>
    refine Fin.ext ((h.srcIdx_row _ _ _ ⟨0, Nat.zero_lt_two⟩ rfl).trans ?_)
    show _ = p.val
    rw [er]; omega
  | ⟨1, _⟩ => exact Fin.ext (h.srcIdx_other _ _ _ ⟨1, Nat.one_lt_two⟩ (by show ¬ 1 + 2 = 2; omega))

end

/-! ## The words of the codes and of the scales -/

/-- The word of the low nibbles, spread. -/
def evenWord (w : BitVec 32) : BitVec 32 := ((w &&& 134744072#32) <<< 4) ||| ((w &&& 117901063#32) <<< 2)

/-- The word of the high nibbles, spread. -/
def oddWord (w : BitVec 32) : BitVec 32 := (w &&& 2155905152#32) ||| ((w &&& 1886417008#32) >>> 2)

/-- The low nibble of a byte, spread. -/
def evenByte (b : BitVec 8) : BitVec 8 := ((b &&& 8#8) <<< 4) ||| ((b &&& 7#8) <<< 2)

/-- The high nibble of a byte, spread. -/
def oddByte (b : BitVec 8) : BitVec 8 := (b &&& 128#8) ||| ((b &&& 112#8) >>> 2)

/-- The nibble of a byte that row parity `p` reads, spread. -/
def spreadByte (p : Fin 2) (b : BitVec 8) : BitVec 8 := if p = 0 then evenByte b else oddByte b

theorem evenWord_byte (w : BitVec 32) (k : Nat) (hk : k < 4) :
    (evenWord w).extractLsb' (8 * k) 8 = evenByte (w.extractLsb' (8 * k) 8) := by
  apply BitVec.eq_of_getLsbD_eq
  intro i hi
  interval_cases k <;> interval_cases i <;> simp [evenWord, evenByte]

theorem oddWord_byte (w : BitVec 32) (k : Nat) (hk : k < 4) :
    (oddWord w).extractLsb' (8 * k) 8 = oddByte (w.extractLsb' (8 * k) 8) := by
  apply BitVec.eq_of_getLsbD_eq
  intro i hi
  interval_cases k <;> interval_cases i <;> simp [oddWord, oddByte]

/-- A scale word from a word of four scale codes shifted so that the wanted code is at bit 7: the code at the exponent's
    place in both halves. -/
def twoHalves (t : BitVec 32) : BitVec 32 := (t &&& 32640#32) ||| ((t &&& 32640#32) <<< 16)

/-- A scale code at the place of the exponent of a 16-bit float. -/
def scaleHalf (s : BitVec 8) : BitVec 16 := (s.setWidth 16) <<< 7

theorem twoHalves_half (t : BitVec 32) (k : Nat) (hk : k < 2) :
    (twoHalves t).extractLsb' (16 * k) 16 = scaleHalf (t.extractLsb' 7 8) := by
  apply BitVec.eq_of_getLsbD_eq
  intro i hi
  interval_cases k <;> interval_cases i <;> simp [twoHalves, scaleHalf]

/-- Byte `2b + p` of a word of scale codes, moved to bit 7. -/
def scaleShift (p b : Fin 2) (w : BitVec 32) : BitVec 32 :=
  if b = 0 then (if p = 0 then w <<< 7 else w >>> 1) else (if p = 0 then w >>> 9 else w >>> 17)

theorem scaleShift_byte (p b : Fin 2) (w : BitVec 32) :
    (scaleShift p b w).extractLsb' 7 8 = (w.extractLsb' (16 * b.val) 16).extractLsb' (8 * p.val) 8 := by
  apply BitVec.eq_of_getLsbD_eq
  intro i hi
  fin_cases p <;> fin_cases b <;> interval_cases i <;> simp [scaleShift]

theorem half_byte (w : BitVec 32) (a p : Nat) (ha : a < 2) (hp : p < 2) :
    (w.extractLsb' (16 * a) 16).extractLsb' (8 * p) 8 = w.extractLsb' (8 * (2 * a + p)) 8 := by
  apply BitVec.eq_of_getLsbD_eq
  intro i hi
  interval_cases a <;> interval_cases p <;> interval_cases i <;> simp

end Cert.Proof

end
-- ==== Proof.Weights.lean ====
/- A tile's weights and its product, read at an index over the extended reals. -/
module

public import proofs.«01_k».proof.Proof.Words

@[expose] public section

set_option maxRecDepth 16384

noncomputable section

namespace Cert.Proof

open Cert.KernelIdeal Cert.KernelIdeal.Gen Idealize.ShloMosaic

/-- The value of the nibble that row parity `p` reads of a code byte, spread to an 8-bit float: 1/64 of the weight's. -/
def codeVal (p : Fin 2) (b : BitVec 8) : EReal := Ideal.ofBits .fp8e4m3 (spreadByte p b)

/-- The value of a scale code at the exponent's place of a 16-bit float. -/
def scaleVal (s : BitVec 8) : EReal := Ideal.ofBits .bf16 (scaleHalf s)

theorem evenWords_apply (w : IVec S64x128 32) (i : S64x128.Idx) : evenWords w i = evenWord (w i) := by
  rfl

theorem oddWords_apply (w : IVec S64x128 32) (i : S64x128.Idx) : oddWords w i = oddWord (w i) := by
  rfl

/-- Byte `k % 4` of the word of codes at `k / 4` is the code at input `k`. -/
theorem codeWords_byte (v : Vec Ideal S128x256 .i8) (k : Fin 256) (l : Fin 128) (p : Fin 64) (hp : p.val = k.val / 4) :
    (codeWords (F := Ideal) v (ix2 p l)).extractLsb' (8 * (k.val % 4)) 8 = v (ix2 l k) := by
  unfold codeWords
  refine (bitcast_8_32_ix2 _ _ p l (k.val % 4) (by omega) k (by omega)).trans ?_
  pointwise

/-- The even rows' weights, unscaled. -/
theorem bytesValue_even (v : Vec Ideal S128x256 .i8) (k : Fin 256) (l : Fin 128) :
    bytesValue (F := Ideal) (evenWords (codeWords (F := Ideal) v)) (ix2 k l) = codeVal 0 (v (ix2 l k)) := by
  have hk : k.val / 4 < 64 := by omega
  show Ideal.ofBits .fp8e4m3 (bitcast S256x128 8 (evenWords (codeWords (F := Ideal) v)) bitcasts_S64x128_w32_S256x128_w8 (ix2 k l)) = _
  rw [show bitcast S256x128 8 (evenWords (codeWords (F := Ideal) v)) bitcasts_S64x128_w32_S256x128_w8 (ix2 k l) = _ from
    bitcast_32_8_ix2 _ _ k l ⟨k.val / 4, hk⟩ rfl]
  rw [evenWords_apply, evenWord_byte _ _ (by omega), codeWords_byte v k l _ rfl]
  rfl

/-- The odd rows' weights, unscaled. -/
theorem bytesValue_odd (v : Vec Ideal S128x256 .i8) (k : Fin 256) (l : Fin 128) :
    bytesValue (F := Ideal) (oddWords (codeWords (F := Ideal) v)) (ix2 k l) = codeVal 1 (v (ix2 l k)) := by
  have hk : k.val / 4 < 64 := by omega
  show Ideal.ofBits .fp8e4m3 (bitcast S256x128 8 (oddWords (codeWords (F := Ideal) v)) bitcasts_S64x128_w32_S256x128_w8 (ix2 k l)) = _
  rw [show bitcast S256x128 8 (oddWords (codeWords (F := Ideal) v)) bitcasts_S64x128_w32_S256x128_w8 (ix2 k l) = _ from
    bitcast_32_8_ix2 _ _ k l ⟨k.val / 4, hk⟩ rfl]
  rw [oddWords_apply, oddWord_byte _ _ (by omega), codeWords_byte v k l _ rfl]
  rfl

/-- A row of scale words, repeated, at an index. -/
theorem scaleRow_apply (v : Vec Ideal S1x1x1x1x128 .i32) (r : Fin 16) (l : Fin 128) :
    scaleRow (F := Ideal) v (ix2 r l) = v (ix5 0 0 0 0 l) := by
  unfold scaleRow
  pointwise

/-- The scale of input `k`: half `k % 2` of the word of block `k / 32`. -/
theorem scaleTile_apply (s : Fin 8 → Vec Ideal S1x1x1x1x128 .i32) (k : Fin 256) (l : Fin 128) (b : Fin 8)
    (hb : b.val = k.val / 32) :
    scaleTile (F := Ideal) s (ix2 k l)
      = Ideal.ofBits .bf16 ((s b (ix5 0 0 0 0 l)).extractLsb' (16 * (k.val % 2)) 16) := by
  have hk : k.val / 2 < 128 := by omega
  unfold scaleTile
  rw [bitcastToFloat_apply]
  refine congrArg (Ideal.ofBits .bf16) ?_
  refine (bitcast_32_16_ix2 _ _ k l ⟨k.val / 2, hk⟩ rfl).trans ?_
  congr 1
  have h : (concatenate S128x128 0 [⟨S16x128, scaleRow (F := Ideal) (s 0)⟩, ⟨S16x128, scaleRow (F := Ideal) (s 1)⟩, ⟨S16x128, scaleRow (F := Ideal) (s 2)⟩,
      ⟨S16x128, scaleRow (F := Ideal) (s 3)⟩, ⟨S16x128, scaleRow (F := Ideal) (s 4)⟩, ⟨S16x128, scaleRow (F := Ideal) (s 5)⟩, ⟨S16x128, scaleRow (F := Ideal) (s 6)⟩,
      ⟨S16x128, scaleRow (F := Ideal) (s 7)⟩]
      concatenates_S16x128_S16x128_S16x128_S16x128_S16x128_S16x128_S16x128_S16x128_S128x128_d0) (ix2 ⟨k.val / 2, hk⟩ l) = scaleRow (F := Ideal) (s b) (ix2 ⟨k.val / 2 % 16, by omega⟩ l) :=
    concatenate_ofFn_apply (t := S128x128) (s₁ := S16x128) 0 (fun i : Fin 8 => scaleRow (F := Ideal) (s i)) _ rfl 16 rfl _ b
      (by show k.val / 2 / 16 = b.val; omega) _ rfl (by
        intro c hc
        match c with
        | ⟨0, _⟩ => exact absurd rfl hc
        | ⟨1, _⟩ => rfl)
  rw [h, scaleRow_apply]

/-- The weights of group `g`, parity `p` and lane `l` at input `k`. -/
theorem tileWeights_apply (v : Fin 2 → Vec Ideal S128x256 .i8) (s : Fin 2 → Fin 2 → Fin 8 → Vec Ideal S1x1x1x1x128 .i32)
    (g p : Fin 2) (l : Fin 128) (k : Fin 256) (b : Fin 8) (hb : b.val = k.val / 32) (q : Fin 512)
    (hq : q.val = 256 * g.val + 128 * p.val + l.val) :
    tileWeights (F := Ideal) v s (ix2 k q)
      = codeVal p (v g (ix2 l k)) * Ideal.ofBits .bf16 ((s g p b (ix5 0 0 0 0 l)).extractLsb' (16 * (k.val % 2)) 16) := by
  have e : tileWeights (F := Ideal) v s (ix2 k q)
      = mulf (if p = 0 then bytesValue (F := Ideal) (evenWords (codeWords (F := Ideal) (v g)))
          else bytesValue (F := Ideal) (oddWords (codeWords (F := Ideal) (v g)))) (scaleTile (F := Ideal) (s g p)) (ix2 k l) := by
    have h := concatenate_ofFn_apply (t := S256x512) (s₁ := S256x128) 1
      (![mulf (bytesValue (F := Ideal) (evenWords (codeWords (F := Ideal) (v 0)))) (scaleTile (F := Ideal) (s 0 0)),
         mulf (bytesValue (F := Ideal) (oddWords (codeWords (F := Ideal) (v 0)))) (scaleTile (F := Ideal) (s 0 1)),
         mulf (bytesValue (F := Ideal) (evenWords (codeWords (F := Ideal) (v 1)))) (scaleTile (F := Ideal) (s 1 0)),
         mulf (bytesValue (F := Ideal) (oddWords (codeWords (F := Ideal) (v 1)))) (scaleTile (F := Ideal) (s 1 1))] :
        Fin 4 → S256x128.Idx → EReal)
      concatenates_S256x128_S256x128_S256x128_S256x128_S256x512_d1 rfl 128 rfl (ix2 k q)
      ⟨2 * g.val + p.val, by omega⟩ (by show q.val / 128 = 2 * g.val + p.val; omega) (ix2 k l)
      (by show l.val = q.val % 128; omega) (by
        intro c hc
        match c with
        | ⟨0, _⟩ => rfl
        | ⟨1, _⟩ => exact absurd rfl hc)
    refine h.trans ?_
    fin_cases g <;> fin_cases p <;> rfl
  rw [e, mulf_apply, scaleTile_apply (s g p) k l b hb]
  refine congrArg (· * _) ?_
  by_cases hp : p = 0
  · subst hp; exact bytesValue_even (v g) k l
  · have : p = 1 := by omega
    subst this; exact bytesValue_odd (v g) k l

/-- A tile's product at row `n` and the column of group `g`, parity `p` and lane `l`. -/
theorem tileProduct_apply (x : Vec Ideal S192x256 .bf16) (v : Fin 2 → Vec Ideal S128x256 .i8)
    (s : Fin 2 → Fin 2 → Fin 8 → Vec Ideal S1x1x1x1x128 .i32) (n : Fin 192) (g p : Fin 2) (l : Fin 128) (q : Fin 512)
    (hq : q.val = 256 * g.val + 128 * p.val + l.val) :
    tileProduct (F := Ideal) x v s (ix2 n q)
      = ∑ k : Fin 256, x (ix2 n k) * (codeVal p (v g (ix2 l k))
          * Ideal.ofBits .bf16 ((s g p ⟨k.val / 32, by omega⟩ (ix5 0 0 0 0 l)).extractLsb' (16 * (k.val % 2)) 16)) := by
  unfold tileProduct
  pointwise
  refine Finset.sum_congr rfl fun k _ => ?_
  rw [tileWeights_apply v s g p l k ⟨k.val / 32, by omega⟩ rfl q hq]

end Cert.Proof

end
-- ==== Proof.Loads.lean ====
/- What a tile loads, read at an index: the inputs, the codes, and — through the table the body stores — the scales. -/
module

public import proofs.«01_k».proof.Proof.Weights
public import Idealize.ShloMosaic.Lib.WholeRead

@[expose] public section

set_option maxRecDepth 16384

noncomputable section

namespace Cert.Proof

open Cert.KernelIdeal Cert.KernelIdeal.Gen Idealize.ShloMosaic

/-- The scale codes of a group's 256 rows, bit-cast to pairs of rows, transposed, two blocks to a word. -/
def scaleWords (v : Vec Ideal S256x208 .i8) : IVec S104x128 32 :=
  bitcast S104x128 32 (transpose S208x128 [1, 0] (bitcast S128x208 16 (bitcast S64x208 32 v
    bitcasts_S256x208_w8_S64x208_w32) bitcasts_S64x208_w32_S128x208_w16) transposes_S128x208_p1_0_S208x128)
    bitcasts_S208x128_w16_S104x128_w32

/-- The scale code of row `2l + p` and block `2j + b` within the word at `(j, l)`. -/
theorem scaleWords_byte (v : Vec Ideal S256x208 .i8) (p b : Fin 2) (j : Fin 104) (l : Fin 128) (r : Fin 256) (q : Fin 208)
    (hr : r.val = 2 * l.val + p.val) (hq : q.val = 2 * j.val + b.val) :
    ((scaleWords v (ix2 j l)).extractLsb' (16 * b.val) 16).extractLsb' (8 * p.val) 8 = v (ix2 r q) := by
  have hl : l.val / 2 < 64 := by omega
  unfold scaleWords
  rw [show (bitcast S104x128 32 (transpose S208x128 [1, 0] (bitcast S128x208 16 (bitcast S64x208 32 v
    bitcasts_S256x208_w8_S64x208_w32) bitcasts_S64x208_w32_S128x208_w16) transposes_S128x208_p1_0_S208x128)
    bitcasts_S208x128_w16_S104x128_w32 (ix2 j l)).extractLsb' (16 * b.val) 16 = _ from
      bitcast_16_32_ix2 _ _ j l b.val b.isLt q hq]
  rw [show (transpose S208x128 [1, 0] (bitcast S128x208 16 (bitcast S64x208 32 v
    bitcasts_S256x208_w8_S64x208_w32) bitcasts_S64x208_w32_S128x208_w16) transposes_S128x208_p1_0_S208x128) (ix2 q l)
      = (bitcast S128x208 16 (bitcast S64x208 32 v
    bitcasts_S256x208_w8_S64x208_w32) bitcasts_S64x208_w32_S128x208_w16) (ix2 l q) by pointwise]
  rw [show (bitcast S128x208 16 (bitcast S64x208 32 v
    bitcasts_S256x208_w8_S64x208_w32) bitcasts_S64x208_w32_S128x208_w16) (ix2 l q) = _ from
      bitcast_32_16_ix2 _ _ l q ⟨l.val / 2, hl⟩ rfl]
  rw [half_byte _ _ _ (by omega) p.isLt]
  exact bitcast_8_32_ix2 _ _ ⟨l.val / 2, hl⟩ q _ (by omega) r (by show r.val = 4 * (l.val / 2) + (2 * (l.val % 2) + p.val); omega)

section
variable (c : Dev nD) (arg1 : Memref sig .tc .vmem S192x6656 .bf16) (h1 : arg1.IsWhole)
  (arg2 : Memref sig .tc .vmem S256x6656 .i8) (h2 : arg2.IsWhole)
  (arg3 : Memref sig .tc .vmem S512x208 .i8) (h3 : arg3.IsWhole)
  (arg5 : Memref sig .tc .vmem S2x2x2x104x128 .i32)
  (x0 : Vec Ideal S192x6656 .bf16) (x1 : Vec Ideal S256x6656 .i8) (x2 : Vec Ideal S512x208 .i8)

/-- The inputs of tile `t`. -/
theorem xLoad_apply (t : Fin 26) (n : Fin 192) (k : Fin 256) (q : Fin 6656) (hq : q.val = 256 * t.val + k.val) :
    xLoad arg1 h1 x0 t (ix2 n k) = x0 (ix2 n q) := by
  refine (h1.readAt_unread x0 _ _).trans (congrArg x0 ?_)
  funext a
  match a with
  | ⟨0, _⟩ => exact Fin.ext (by show 0 + 1 * n.val = n.val; omega)
  | ⟨1, _⟩ => exact Fin.ext (by show 256 * t.val + 1 * k.val = q.val; omega)

/-- The codes of tile `t`, group `g`. -/
theorem cLoad_apply (g : Fin 2) (t : Fin 26) (l : Fin 128) (k : Fin 256) (r : Fin 256) (q : Fin 6656)
    (hr : r.val = 128 * g.val + l.val) (hq : q.val = 256 * t.val + k.val) :
    cLoad arg2 h2 x1 g t (ix2 l k) = x1 (ix2 r q) := by
  refine (h2.readAt_unread x1 _ _).trans (congrArg x1 ?_)
  funext a
  match a with
  | ⟨0, _⟩ => exact Fin.ext (by show 128 * g.val + 1 * l.val = r.val; omega)
  | ⟨1, _⟩ => exact Fin.ext (by show 256 * t.val + 1 * k.val = q.val; omega)

theorem inbR (g : Fin 2) : ∀ a, (![256 * g.val, 0] : Fin 2 → Nat) a + S256x208.size a ≤ S512x208.size a :=
  Rect.inb₂ (by have := g.isLt; simp; omega) (by simp)

/-- The scale codes of group `g`, as the body loads them. -/
def rowsLoad (g : Fin 2) : Vec Ideal S256x208 .i8 :=
  View.readAt (Elt Ideal) arg3.view (Rect.unit (s := S512x208) ![256 * g.val, 0] S256x208.size (inbR g)).toLoadRect (h3.unread x2)

theorem rowsLoad_apply (g : Fin 2) (r : Fin 256) (q : Fin 208) (r' : Fin 512) (hr : r'.val = 256 * g.val + r.val) :
    rowsLoad arg3 h3 x2 g (ix2 r q) = x2 (ix2 r' q) := by
  refine (h3.readAt_unread x2 _ _).trans (congrArg x2 ?_)
  funext a
  match a with
  | ⟨0, _⟩ => exact Fin.ext (by show 256 * g.val + 1 * r.val = r'.val; omega)
  | ⟨1, _⟩ => exact Fin.ext (by show 0 + 1 * q.val = q.val; omega)

/-- The table of scale words of group `g`, parity `p` and block parity `b`, as stored. -/
def stored (g p b : Fin 2) : Vec Ideal S1x1x1x104x128 .i32 :=
  shapeCast S1x1x1x104x128 (fun i : S104x128.Idx => twoHalves (scaleShift p b (scaleWords (rowsLoad arg3 h3 x2 g) i)))
    shapeCasts_S104x128_S1x1x1x104x128

theorem stored_apply (g p b : Fin 2) (i0 i1 i2 : Fin 1) (j : Fin 104) (l : Fin 128) :
    stored arg3 h3 x2 g p b (ix5 i0 i1 i2 j l) = twoHalves (scaleShift p b (scaleWords (rowsLoad arg3 h3 x2 g) (ix2 j l))) := by
  unfold stored
  pointwise

theorem inbT (g p b : Fin 2) : ∀ a, (![g.val, p.val, b.val, 0, 0] : Fin 5 → Nat) a
    + S1x1x1x104x128.size a ≤ S2x2x2x104x128.size a := by
  have := g.isLt; have := p.isLt; have := b.isLt
  intro a
  fin_cases a <;> simp <;> omega

/-- Where that table is stored. -/
abbrev rectT (g p b : Fin 2) : Rect S2x2x2x104x128 :=
  Rect.unit (s := S2x2x2x104x128) ![g.val, p.val, b.val, 0, 0] S1x1x1x104x128.size (inbT g p b)

/-- One stored piece of the scratch. -/
def pieceT (g p b : Fin 2) : View.Piece (Elt Ideal) S2x2x2x104x128 .i32 := ⟨rectT g p b, stored arg3 h3 x2 g p b⟩

/-- The pieces the body stores into the scratch. -/
theorem pieces_eq : kernelRun0_A.sl.HS0_8 (F := Ideal) c arg3 h3 x2
    = [pieceT arg3 h3 x2 1 1 1, pieceT arg3 h3 x2 1 0 1, pieceT arg3 h3 x2 1 1 0, pieceT arg3 h3 x2 1 0 0,
       pieceT arg3 h3 x2 0 1 1, pieceT arg3 h3 x2 0 0 1, pieceT arg3 h3 x2 0 1 0, pieceT arg3 h3 x2 0 0 0] := by
  rfl

/-- The scratch after the stores. -/
def tableT (y : S2x2x2x104x128.Idx) : Elt Ideal .i32 :=
  twoHalves (scaleShift (y 1) (y 2) (scaleWords (rowsLoad arg3 h3 x2 (y 0)) (ix2 (y 3) (y 4))))

theorem pieceT_apply (g p b : Fin 2) (x : (rectT g p b).shape.Idx) :
    stored arg3 h3 x2 g p b x = tableT arg3 h3 x2 ((rectT g p b).idx x) := by
  obtain ⟨i0, i1, i2, j, l, rfl⟩ : ∃ (i0 i1 i2 : Fin 1) (j : Fin 104) (l : Fin 128), x = ix5 i0 i1 i2 j l :=
    ⟨x 0, x 1, x 2, x 3, x 4, eq_ix5 x⟩
  refine (stored_apply arg3 h3 x2 g p b i0 i1 i2 j l).trans ?_
  have e0 : (rectT g p b).idx (ix5 i0 i1 i2 j l) = ix5 g p b j l := by
    funext a
    match a with
    | ⟨0, _⟩ => exact Fin.ext (by show g.val + 1 * i0.val = g.val; omega)
    | ⟨1, _⟩ => exact Fin.ext (by show p.val + 1 * i1.val = p.val; omega)
    | ⟨2, _⟩ => exact Fin.ext (by show b.val + 1 * i2.val = b.val; omega)
    | ⟨3, _⟩ => exact Fin.ext (by show 0 + 1 * j.val = j.val; omega)
    | ⟨4, _⟩ => exact Fin.ext (by show 0 + 1 * l.val = l.val; omega)
  rw [e0]
  rfl

theorem mem_rectT (y : S2x2x2x104x128.Idx) : y ∈ (rectT (y 0) (y 1) (y 2)).set := by
  rw [Rect.mem_set_unit]
  intro a
  match a with
  | ⟨0, _⟩ => show (y 0).val ≤ (y 0).val ∧ (y 0).val < (y 0).val + 1; omega
  | ⟨1, _⟩ => show (y 1).val ≤ (y 1).val ∧ (y 1).val < (y 1).val + 1; omega
  | ⟨2, _⟩ => show (y 2).val ≤ (y 2).val ∧ (y 2).val < (y 2).val + 1; omega
  | ⟨3, _⟩ => exact ⟨Nat.zero_le _, by have : (y 3).val < 104 := (y 3).isLt; show (y 3).val < 0 + 104; omega⟩
  | ⟨4, _⟩ => exact ⟨Nat.zero_le _, by have : (y 4).val < 128 := (y 4).isLt; show (y 4).val < 0 + 128; omega⟩

/-- The stored pieces make up the table. -/
theorem canon_pieces (y : S2x2x2x104x128.Idx) :
    View.canon (kernelRun0_A.sl.HS0_8 (F := Ideal) c arg3 h3 x2) y = tableT arg3 h3 x2 y := by
  rw [pieces_eq]
  refine View.canon_apply_of_pieces (Val := Elt Ideal) (e := .i32) (tableT arg3 h3 x2) _ ?_ y ?_
  · intro pc hpc x
    simp only [List.mem_cons, List.not_mem_nil, or_false] at hpc
    rcases hpc with rfl | rfl | rfl | rfl | rfl | rfl | rfl | rfl <;> exact pieceT_apply arg3 h3 x2 _ _ _ x
  · refine ⟨pieceT arg3 h3 x2 (y 0) (y 1) (y 2), ?_, mem_rectT y⟩
    have h : ∀ g p b : Fin 2, pieceT arg3 h3 x2 g p b ∈ [pieceT arg3 h3 x2 1 1 1, pieceT arg3 h3 x2 1 0 1, pieceT arg3 h3 x2 1 1 0, pieceT arg3 h3 x2 1 0 0,
       pieceT arg3 h3 x2 0 1 1, pieceT arg3 h3 x2 0 0 1, pieceT arg3 h3 x2 0 1 0, pieceT arg3 h3 x2 0 0 0] := by
      intro g p b
      fin_cases g <;> fin_cases p <;> fin_cases b <;> simp
    exact h _ _ _

/-- A half of a loaded scale word: the scale code of row `256g + 2l + p` and the block, at the exponent's place. -/
theorem sLoad_half (g p : Fin 2) (b : Nat) (hb : b < 208) (l : Fin 128) (k : Nat) (hk : k < 2) (r : Fin 512)
    (hr : r.val = 256 * g.val + 2 * l.val + p.val) :
    (sLoad c arg3 h3 arg5 x2 g p b hb (ix5 0 0 0 0 l)).extractLsb' (16 * k) 16 = scaleHalf (x2 (ix2 r ⟨b, hb⟩)) := by
  have e : sLoad c arg3 h3 arg5 x2 g p b hb (ix5 0 0 0 0 l)
      = tableT arg3 h3 x2 (ix5 g p ⟨b % 2, by omega⟩ ⟨b / 2, by omega⟩ l) := by
    unfold sLoad
    rw [View.readCov_eq_canon']
    refine (canon_pieces c arg3 h3 x2 _).trans (congrArg (tableT arg3 h3 x2) ?_)
    funext a
    match a with
    | ⟨0, _⟩ => exact Fin.ext (by show g.val + 1 * 0 = g.val; omega)
    | ⟨1, _⟩ => exact Fin.ext (by show p.val + 1 * 0 = p.val; omega)
    | ⟨2, _⟩ => exact Fin.ext (by show b % 2 + 1 * 0 = b % 2; omega)
    | ⟨3, _⟩ => exact Fin.ext (by show b / 2 + 1 * 0 = b / 2; omega)
    | ⟨4, _⟩ => exact Fin.ext (by show 0 + 1 * l.val = l.val; omega)
  rw [e]
  show (twoHalves (scaleShift p ⟨b % 2, _⟩ (scaleWords (rowsLoad arg3 h3 x2 g) (ix2 ⟨b / 2, _⟩ l)))).extractLsb' (16 * k) 16 = _
  rw [twoHalves_half _ _ hk, scaleShift_byte,
    scaleWords_byte (rowsLoad arg3 h3 x2 g) p ⟨b % 2, by omega⟩ ⟨b / 2, by omega⟩ l ⟨2 * l.val + p.val, by omega⟩ ⟨b, hb⟩ rfl
      (by show b = 2 * (b / 2) + b % 2; omega),
    rowsLoad_apply arg3 h3 x2 g _ _ r (by show r.val = 256 * g.val + (2 * l.val + p.val); omega)]

end

end Cert.Proof

end
-- ==== Proof.Block.lean ====
/- What the body leaves in its output block, read at an index: the whole contraction, times 64. -/
module

public import proofs.«01_k».proof.Proof.Loads

@[expose] public section

set_option maxRecDepth 16384

noncomputable section

namespace Cert.Proof

open Cert.KernelIdeal Cert.KernelIdeal.Gen Idealize.ShloMosaic

section
variable (c : Dev nD) (arg1 : Memref sig .tc .vmem S192x6656 .bf16) (h1 : arg1.IsWhole)
  (arg2 : Memref sig .tc .vmem S256x6656 .i8) (h2 : arg2.IsWhole)
  (arg3 : Memref sig .tc .vmem S512x208 .i8) (h3 : arg3.IsWhole)
  (arg4 : Memref sig .tc .vmem S192x512 .bf16) (h4 : arg4.IsWhole)
  (arg5 : Memref sig .tc .vmem S2x2x2x104x128 .i32) (h5 : arg5.IsWhole)
  (x0 : Vec Ideal S192x6656 .bf16) (x1 : Vec Ideal S256x6656 .i8) (x2 : Vec Ideal S512x208 .i8)

/-- The product of the input at row `n` and position `k` with the weight, over 64, of row pair `a`, parity `p`. -/
def blockTerm (n : Fin 192) (a : Fin 256) (p : Fin 2) (k : Fin 6656) : EReal :=
  x0 (ix2 n k) * (codeVal p (x1 (ix2 a k)) * scaleVal (x2 (ix2 ⟨2 * a.val + p.val, by omega⟩ ⟨k.val / 32, by omega⟩)))

/-- The product of tile `t` at row `n` and the column of row pair `a = 128g + l` and parity `p`. -/
theorem tile_apply (t : Fin 26) (n : Fin 192) (a : Fin 256) (p : Fin 2) (q : Fin 512)
    (hq : q.val = 256 * (a.val / 128) + 128 * p.val + a.val % 128) :
    tile c arg1 h1 arg2 h2 arg3 h3 arg5 x0 x1 x2 t (ix2 n q)
      = ∑ k : Fin 256, blockTerm x0 x1 x2 n a p ⟨256 * t.val + k.val, by omega⟩ := by
  unfold tile
  rw [tileProduct_apply _ _ _ n ⟨a.val / 128, by omega⟩ p ⟨a.val % 128, by omega⟩ q hq]
  refine Finset.sum_congr rfl fun k _ => ?_
  rw [xLoad_apply arg1 h1 x0 t n k ⟨256 * t.val + k.val, by omega⟩ rfl,
    cLoad_apply arg2 h2 x1 _ t _ k a ⟨256 * t.val + k.val, by omega⟩ (by show a.val = 128 * (a.val / 128) + a.val % 128; omega) rfl,
    sLoad_half c arg3 h3 arg5 x2 _ p _ _ _ (k.val % 2) (by omega) ⟨2 * a.val + p.val, by omega⟩
      (by show 2 * a.val + p.val = 256 * (a.val / 128) + 2 * (a.val % 128) + p.val; omega)]
  have e : (⟨8 * t.val + k.val / 32, by omega⟩ : Fin 208) = ⟨(256 * t.val + k.val) / 32, by omega⟩ := Fin.ext (by show 8 * t.val + k.val / 32 = (256 * t.val + k.val) / 32; omega)
  unfold blockTerm scaleVal
  rw [← e]

/-- The accumulator after the last tile is the sum of the tiles' products. -/
theorem acc_eq_sum (i : S192x512.Idx) :
    kernelRun0_A.sl.r_620 c arg1 h1 arg2 h2 arg3 h3 arg5 x0 x1 x2 i
      = ∑ t : Fin 26, tile c arg1 h1 arg2 h2 arg3 h3 arg5 x0 x1 x2 t i := by
  rw [acc_25, acc_24, acc_23, acc_22, acc_21, acc_20, acc_19, acc_18, acc_17, acc_16, acc_15, acc_14, acc_13, acc_12, acc_11, acc_10, acc_9, acc_8, acc_7, acc_6, acc_5, acc_4, acc_3, acc_2, acc_1, acc_0]
  simp only [addf_apply, Ideal.addf_def]
  simp only [Fin.sum_univ_castSucc, Finset.univ_eq_empty, Finset.sum_empty, zero_add]
  rfl

/-- A sum over 26 tiles of 256 positions each is the sum over the 6656 positions. -/
theorem sum_tiles (f : Fin 6656 → EReal) :
    ∑ t : Fin 26, ∑ k : Fin 256, f ⟨256 * t.val + k.val, by omega⟩ = ∑ k : Fin 6656, f k := by
  rw [← Fintype.sum_prod_type']
  refine Fintype.sum_equiv (finProdFinEquiv (m := 26) (n := 256)) _ _ fun x => ?_
  refine congrArg f (Fin.ext ?_)
  show 256 * x.1.val + x.2.val = x.2.val + 256 * x.1.val
  omega

/-- The accumulator at the column of row pair `a` and parity `p`. -/
theorem acc_apply (n : Fin 192) (a : Fin 256) (p : Fin 2) (q : Fin 512)
    (hq : q.val = 256 * (a.val / 128) + 128 * p.val + a.val % 128) :
    kernelRun0_A.sl.r_620 c arg1 h1 arg2 h2 arg3 h3 arg5 x0 x1 x2 (ix2 n q) = ∑ k : Fin 6656, blockTerm x0 x1 x2 n a p k := by
  rw [acc_eq_sum, ← sum_tiles]
  exact Finset.sum_congr rfl fun t _ => tile_apply c arg1 h1 arg2 h2 arg3 h3 arg5 x0 x1 x2 t n a p q hq

/-- What the body stores at an index of its output block. -/
def outBlock (y : S192x512.Idx) : Elt Ideal .bf16 :=
  (∑ k : Fin 6656, blockTerm x0 x1 x2 (y 0) ⟨(y 1).val / 2, by have : (y 1).val < 512 := (y 1).isLt; omega⟩ ⟨(y 1).val % 2, by omega⟩ k)
    * Ideal.ofBits .f32 0x42800000#32

/-- The second half stored: of the accumulator's columns from 256 on, even and odd rows' interleaved, times 64. -/
theorem half1_apply (v : FVec Ideal S192x512 .f32) (n : Fin 192) (q : Fin 256) (r : Fin 512)
    (hr : r.val = 256 + 128 * (q.val % 2) + q.val / 2) :
    k0_pay1 (F := Ideal) v (ix2 n q) = v (ix2 n r) * Ideal.ofBits .f32 0x42800000#32 := by
  pointwise [k0_pay1]
  split
  · rw [show r = ⟨256 + q.val / 2, by omega⟩ from Fin.ext (by show r.val = 256 + q.val / 2; omega)]
  · rw [show r = ⟨384 + q.val / 2, by omega⟩ from Fin.ext (by show r.val = 384 + q.val / 2; omega)]

/-- The same for the first half, whose even rows' slice is taken beforehand. -/
theorem half0_apply (v : FVec Ideal S192x512 .f32) (n : Fin 192) (q : Fin 256) (r : Fin 512)
    (hr : r.val = 128 * (q.val % 2) + q.val / 2) :
    k0_pay829 (F := Ideal) v (extractStridedSlice S192x128 ![0, 0] v slices_S192x512_o0_0_S192x128) (Scalar.ofBits .f32 0x42800000#32) (ix2 n q) = v (ix2 n r) * Ideal.ofBits .f32 0x42800000#32 := by
  pointwise [k0_pay829]
  split
  · rw [show r = ⟨q.val / 2, by omega⟩ from Fin.ext (by show r.val = q.val / 2; omega)]
  · rw [show r = ⟨128 + q.val / 2, by omega⟩ from Fin.ext (by show r.val = 128 + q.val / 2; omega)]

theorem inbO (g : Fin 2) : ∀ a, (![0, 256 * g.val] : Fin 2 → Nat) a + S192x256.size a ≤ S192x512.size a :=
  Rect.inb₂ (by simp) (by have := g.isLt; simp; omega)

/-- Where group `g`'s half is stored. -/
abbrev rectO (g : Fin 2) : Rect S192x512 := Rect.unit (s := S192x512) ![0, 256 * g.val] S192x256.size (inbO g)

/-- The pieces the body stores into its output block. -/
theorem outPieces_eq (i : grid0.Coords) :
    (kernelRun0_A (F := Ideal) c i arg1 h1 arg2 h2 arg3 h3 arg4 h4 arg5 h5 x0 x1 x2).1
      = [⟨rectO 1, k0_pay1 (kernelRun0_A.sl.r_620 c arg1 h1 arg2 h2 arg3 h3 arg5 x0 x1 x2)⟩,
         ⟨rectO 0, k0_pay829 (kernelRun0_A.sl.r_620 c arg1 h1 arg2 h2 arg3 h3 arg5 x0 x1 x2)
          (extractStridedSlice S192x128 ![0, 0] (kernelRun0_A.sl.r_620 c arg1 h1 arg2 h2 arg3 h3 arg5 x0 x1 x2) slices_S192x512_o0_0_S192x128)
          (Scalar.ofBits .f32 0x42800000#32)⟩] := by
  rfl

/-- What the body leaves in its output block. -/
theorem out_apply (i : grid0.Coords) (y : S192x512.Idx) :
    out0_A_3 (F := Ideal) c i arg1 h1 arg2 h2 arg3 h3 arg4 h4 arg5 h5 x0 x1 x2 y = outBlock x0 x1 x2 y := by
  unfold out0_A_3
  rw [View.read_writes_junk_eq_canon, outPieces_eq]
  refine View.canon_apply_of_pieces (Val := Elt Ideal) (e := .bf16) (outBlock x0 x1 x2) _ ?_ y ?_
  · intro pc hpc x
    simp only [List.mem_cons, List.not_mem_nil, or_false] at hpc
    rcases hpc with rfl | rfl
    · obtain ⟨n, q, rfl⟩ : ∃ (n : Fin 192) (q : Fin 256), x = ix2 n q := ⟨x 0, x 1, eq_ix2 x⟩
      have e0 : (rectO 1).emb (ix2 n q) = ix2 n ⟨256 + q.val, by omega⟩ := by
        funext a
        match a with
        | ⟨0, _⟩ => exact Fin.ext (by show 0 + 1 * n.val = n.val; omega)
        | ⟨1, _⟩ => exact Fin.ext (by show 256 + 1 * q.val = 256 + q.val; omega)
      refine Eq.trans ?_ (congrArg (outBlock x0 x1 x2) e0).symm
      refine (half1_apply _ n q ⟨256 + 128 * (q.val % 2) + q.val / 2, by omega⟩ rfl).trans ?_
      rw [acc_apply c arg1 h1 arg2 h2 arg3 h3 arg5 x0 x1 x2 n ⟨(256 + q.val) / 2, by omega⟩ ⟨(256 + q.val) % 2, by omega⟩ _ (by
        show 256 + 128 * (q.val % 2) + q.val / 2 = 256 * ((256 + q.val) / 2 / 128) + 128 * ((256 + q.val) % 2) + (256 + q.val) / 2 % 128
        omega)]
      rfl
    · obtain ⟨n, q, rfl⟩ : ∃ (n : Fin 192) (q : Fin 256), x = ix2 n q := ⟨x 0, x 1, eq_ix2 x⟩
      have e0 : (rectO 0).emb (ix2 n q) = ix2 n ⟨q.val, by omega⟩ := by
        funext a
        match a with
        | ⟨0, _⟩ => exact Fin.ext (by show 0 + 1 * n.val = n.val; omega)
        | ⟨1, _⟩ => exact Fin.ext (by show 0 + 1 * q.val = q.val; omega)
      refine Eq.trans ?_ (congrArg (outBlock x0 x1 x2) e0).symm
      refine (half0_apply _ n q ⟨128 * (q.val % 2) + q.val / 2, by omega⟩ rfl).trans ?_
      rw [acc_apply c arg1 h1 arg2 h2 arg3 h3 arg5 x0 x1 x2 n ⟨q.val / 2, by omega⟩ ⟨q.val % 2, by omega⟩ _ (by
        show 128 * (q.val % 2) + q.val / 2 = 256 * (q.val / 2 / 128) + 128 * (q.val % 2) + q.val / 2 % 128
        omega)]
      rfl
  · have hy0 : (y 0).val < 192 := (y 0).isLt
    have hy1 : (y 1).val < 512 := (y 1).isLt
    by_cases h : (y 1).val < 256
    · refine ⟨_, List.mem_cons_of_mem _ List.mem_cons_self, ?_⟩
      show y ∈ (rectO 0).set
      rw [Rect.mem_set_unit]
      intro a
      match a with
      | ⟨0, _⟩ => show 0 ≤ (y 0).val ∧ (y 0).val < 0 + 192; omega
      | ⟨1, _⟩ => show 0 ≤ (y 1).val ∧ (y 1).val < 0 + 256; omega
    · refine ⟨_, List.mem_cons_self, ?_⟩
      show y ∈ (rectO 1).set
      rw [Rect.mem_set_unit]
      intro a
      match a with
      | ⟨0, _⟩ => show 0 ≤ (y 0).val ∧ (y 0).val < 0 + 192; omega
      | ⟨1, _⟩ => show 256 ≤ (y 1).val ∧ (y 1).val < 256 + 256; omega

end

end Cert.Proof

end
-- ==== Proof.Array.lean ====
/- The kernel's result array, read at an index: the blocks of the grid put together. -/
module

public import proofs.«01_k».proof.Proof.Block
public import proofs.«01_k».proof.Proof.Gen.KernelIdeal.Value
public import Idealize.ShloMosaic.Lib.StableHlo.ReadAt

@[expose] public section

set_option maxRecDepth 16384

noncomputable section

namespace Cert.Proof

open Cert.KernelIdeal Cert.KernelIdeal.Gen Idealize.ShloMosaic

/-- Where each window's block of grid point `t` starts, in blocks. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- Every grid point writes its result block back. -/
theorem flush_all : ∀ t : Fin cfg0.N, (cfg0.win 3).flush t = true :=
  (by decide +kernel : ∀ t : Fin grid0.N, win0_3.flush t = true)

theorem numPoints : cfg0.N = 32 := by decide +kernel

variable (m : (ℓ : Loc nD τ sig) → Buf (Elt Ideal) ℓ) (c : Dev nD)

/-- The activations, the weight codes and the scales, as the run finds them. -/
def argX : Vec Ideal S192x1x6656 .bf16 := m ((c.tc : Thread nD τ).loc main_arg0)
@[inherit_doc argX] def argC : Vec Ideal S8192x6656 .i8 := m ((c.tc : Thread nD τ).loc main_arg1)
@[inherit_doc argX] def argS : Vec Ideal S16384x208 .i8 := m ((c.tc : Thread nD τ).loc main_arg2)

/-- The region finds the activations with the axis of size one dropped. -/
theorem V_main_v0 (n : Fin 192) (k : Fin 6656) : V m c main_v0 (ix2 n k) = argX m c (ix3 n 0 k) := by
  unfold V argX
  after_reads_at

theorem iblk0_apply (t : Fin cfg0.N) (n : Fin 192) (k : Fin 6656) :
    iblk m c 0 t (ix2 n k) = argX m c (ix3 n 0 k) := by
  obtain ⟨e0, e1, -⟩ := idx_facts t
  show V m c main_v0 (((cfg0.win 0).blk t).view.emb (ix2 n k)) = _
  rw [show ((cfg0.win 0).blk t).view.emb (ix2 n k) = ix2 n k from by
    funext a; apply Fin.ext
    match a with
    | ⟨0, _⟩ => show win0_0.index t (0 : Fin 2) * 192 + 1 * n.val = n.val; omega
    | ⟨1, _⟩ => show win0_0.index t (1 : Fin 2) * 6656 + 1 * k.val = k.val; omega]
  exact V_main_v0 m c n k

theorem iblk1_apply (t : Fin cfg0.N) (a : Fin 256) (k : Fin 6656) (a' : Fin 8192) (ha : a'.val = 256 * t.val + a.val) :
    iblk m c 1 t (ix2 a k) = argC m c (ix2 a' k) := by
  obtain ⟨-, -, e0, e1, -⟩ := idx_facts t
  show V m c main_arg1 (((cfg0.win 1).blk t).view.emb (ix2 a k)) = _
  rw [show ((cfg0.win 1).blk t).view.emb (ix2 a k) = ix2 a' k from by
    funext d; apply Fin.ext
    match d with
    | ⟨0, _⟩ => show win0_1.index t (0 : Fin 2) * 256 + 1 * a.val = a'.val; omega
    | ⟨1, _⟩ => show win0_1.index t (1 : Fin 2) * 6656 + 1 * k.val = k.val; omega, V_main_arg1]
  rfl

theorem iblk2_apply (t : Fin cfg0.N) (r : Fin 512) (b : Fin 208) (r' : Fin 16384) (hr : r'.val = 512 * t.val + r.val) :
    iblk m c 2 t (ix2 r b) = argS m c (ix2 r' b) := by
  obtain ⟨-, -, -, -, e0, e1, -⟩ := idx_facts t
  show V m c main_arg2 (((cfg0.win 2).blk t).view.emb (ix2 r b)) = _
  rw [show ((cfg0.win 2).blk t).view.emb (ix2 r b) = ix2 r' b from by
    funext d; apply Fin.ext
    match d with
    | ⟨0, _⟩ => show win0_2.index t (0 : Fin 2) * 512 + 1 * r.val = r'.val; omega
    | ⟨1, _⟩ => show win0_2.index t (1 : Fin 2) * 208 + 1 * b.val = b.val; omega, V_main_arg2]
  rfl

/-- One product of the kernel's contraction: row `n`, output column `q`, input column `k`. -/
def kernelTerm (n : Fin 192) (q : Fin 16384) (k : Fin 6656) : EReal :=
  argX m c (ix3 n 0 k) * (codeVal ⟨q.val % 2, by omega⟩ (argC m c (ix2 ⟨q.val / 2, by omega⟩ k))
    * scaleVal (argS m c (ix2 q ⟨k.val / 32, by omega⟩)))

/-- The kernel's result at row `n` and column `q`: the whole contraction, times 64. -/
theorem result_apply (n : Fin 192) (q : Fin 16384) :
    (dats m 0 c).arrAt 3 cfg0.N (ix2 n q) = (∑ k : Fin 6656, kernelTerm m c n q k) * Ideal.ofBits .f32 0x42800000#32 := by
  have hN := numPoints
  obtain ⟨t, ht⟩ : ∃ t : Fin cfg0.N, t.val = q.val / 512 := ⟨⟨q.val / 512, by omega⟩, rfl⟩
  obtain ⟨-, -, -, -, -, -, e0, e1⟩ := idx_facts t
  have b := congrFun (Value.blocks3 m c t (flush_all t)) (ix2 n ⟨q.val % 512, by omega⟩ : S192x512.Idx)
  rw [Value.flushed3_A] at b
  have b' : (dats m 0 c).arrAt 3 cfg0.N (((cfg0.win 3).blk t).view.emb (ix2 n ⟨q.val % 512, by omega⟩ : S192x512.Idx)) = _ := b
  rw [show ((cfg0.win 3).blk t).view.emb (ix2 n ⟨q.val % 512, by omega⟩ : S192x512.Idx) = ix2 n q from by
    funext d; apply Fin.ext
    match d with
    | ⟨0, _⟩ => show win0_3.index t (0 : Fin 2) * 192 + 1 * n.val = n.val; omega
    | ⟨1, _⟩ => show win0_3.index t (1 : Fin 2) * 512 + 1 * (q.val % 512) = q.val; omega] at b'
  refine b'.trans ((out_apply _ _ _ _ _ _ _ _ _ _ _ _ _ _ _ _).trans ?_)
  unfold outBlock
  refine congrArg (· * _) (Finset.sum_congr rfl fun k _ => ?_)
  unfold blockTerm kernelTerm
  have q1 : q.val % 512 % 2 = q.val % 2 := by omega
  refine congr (congrArg (fun a b : EReal => a * b) (iblk0_apply m c t n k)) (congr (congrArg (fun a b : EReal => a * b) ?_) ?_)
  · exact congr (congrArg codeVal (Fin.ext q1))
      (iblk1_apply m c t _ k ⟨q.val / 2, by omega⟩ (by show q.val / 2 = 256 * t.val + q.val % 512 / 2; omega))
  · exact congrArg scaleVal
      (iblk2_apply m c t _ _ q (by show q.val = 512 * t.val + (2 * (q.val % 512 / 2) + q.val % 512 % 2); omega))

end Cert.Proof

end
-- ==== Proof.Reference.lean ====
/- The reference's result, read at an index. -/
module

public import proofs.«01_k».proof.Proof.Gen.ReferenceIdeal.Run
public import Idealize.ShloMosaic.Lib.Pointwise
public import Idealize.ShloMosaic.Lib.IdealHost

@[expose] public section

set_option maxRecDepth 16384

noncomputable section

namespace Cert.Proof

open Cert.ReferenceIdeal Cert.ReferenceIdeal.Gen Idealize.ShloMosaic

/-- One integer at every index of the code array. -/
def splatI (b : BitVec 32) : IVec S8192x6656 32 := broadcastInDim S8192x6656 ![] bcast_S_S8192x6656 (constantI S_ 32 b)

/-- One bf16 constant at every index of the code array. -/
def splatF (b : BitVec 16) : FVec Ideal S8192x6656 .bf16 :=
  broadcastInDim S8192x6656 ![] bcast_S_S8192x6656 (constant S_ .bf16 b)

/-- Whether a bit of the code is set. -/
def bitSet (v : IVec S8192x6656 32) (b : BitVec 32) : IVec S8192x6656 1 := cmpi .ne (andi v (splatI b)) (splatI 0#32)

/-- The magnitudes of the codes. -/
def refMags (v : IVec S8192x6656 32) : FVec Ideal S8192x6656 .bf16 :=
  select (bitSet v 4#32)
    (select (bitSet v 2#32) (select (bitSet v 1#32) (splatF 0x40C0#16) (splatF 0x4080#16))
      (select (bitSet v 1#32) (splatF 0x4040#16) (splatF 0x4000#16)))
    (select (bitSet v 2#32) (select (bitSet v 1#32) (splatF 0x3FC0#16) (splatF 0x3F80#16))
      (select (bitSet v 1#32) (splatF 0x3F00#16) (splatF 0x0000#16)))

/-- The values of the codes. -/
def refCodes (v : IVec S8192x6656 32) : FVec Ideal S8192x6656 .bf16 :=
  select (bitSet v 8#32) (Host.negf (refMags v)) (refMags v)

/-- The scale of every code. -/
def refScales (s : IVec S8192x208 8) : FVec Ideal S8192x6656 .bf16 :=
  shapeCast _ (broadcastInDim S8192x208x32 ![0, 1] bcast_S8192x208_S8192x208x32_0_1
    (truncf .bf16 (Host.powf (broadcastInDim S8192x208 ![] bcast_S_S8192x208 (constant S_ .f32 0x40000000#32))
      (sitofp .f32 (subi (extui 32 s natLt_8_32)
        (broadcastInDim S8192x208 ![] bcast_S_S8192x208 (constantI S_ 32 127#32))))) bitsLt_bf16_f32))
    shapeCasts_S8192x208x32_S8192x6656

/-- The product of the activations and one half of the weight rows. -/
def refHalf (x : FVec Ideal S192x1x6656 .bf16) (v : IVec S8192x6656 32) (s : IVec S8192x208 8) : FVec Ideal S192x1x8192x1 .f32 :=
  broadcastInDim S192x1x8192x1 ![0, 1, 2] bcast_S192x1x8192_S192x1x8192x1_0_1_2
    (Host.dotGeneral dot_S192x1x6656_S8192x6656_S192x1x8192_2_1_01_0_n_n none x (mulf (refCodes v) (refScales s)))

/-- The codes of the even rows and of the odd rows. -/
def refWords (p : Fin 2) (w : IVec S8192x6656 8) : IVec S8192x6656 32 :=
  match p with
  | 0 => andi (extui 32 w natLt_8_32) (splatI 15#32)
  | 1 => Host.shrsi (extui 32 w natLt_8_32) (splatI 4#32)

/-- The scale codes of the even rows and of the odd rows. -/
def refRows (p : Fin 2) (s : IVec S16384x208 8) : IVec S8192x208 8 :=
  match p with
  | 0 => shapeCast _ (extractStridedSlice S8192x1x208 ![0, 0, 0] (shapeCast _ s shapeCasts_S16384x208_S8192x2x208)
      slices_S8192x2x208_S8192x1x208_0_0_0) shapeCasts_S8192x1x208_S8192x208
  | 1 => shapeCast _ (extractStridedSlice S8192x1x208 ![0, 1, 0] (shapeCast _ s shapeCasts_S16384x208_S8192x2x208)
      slices_S8192x2x208_S8192x1x208_0_1_0) shapeCasts_S8192x1x208_S8192x208

/-- The reference's whole result of its arguments. -/
def refResult (x : FVec Ideal S192x1x6656 .bf16) (w : IVec S8192x6656 8) (s : IVec S16384x208 8) : FVec Ideal S192x16384 .bf16 :=
  shapeCast _ (truncf .bf16 (shapeCast _ (concatenate S192x1x8192x2 3
    [⟨S192x1x8192x1, refHalf x (refWords 0 w) (refRows 0 s)⟩, ⟨S192x1x8192x1, refHalf x (refWords 1 w) (refRows 1 s)⟩]
    concatenates_S192x1x8192x1_S192x1x8192x1_S192x1x8192x2_d3) shapeCasts_S192x1x8192x2_S192x1x16384)
    bitsLt_bf16_f32) shapeCasts_S192x1x16384_S192x16384

set_option maxHeartbeats 1000000 in
theorem res_eq (m : (ℓ : Loc nD τ sig) → Buf (Elt Ideal) ℓ) (c : Dev nD) :
    Value.res_main_v87 (F := Ideal) m c
      = refResult (m (c.tc.loc main_arg0)) (m (c.tc.loc main_arg1)) (m (c.tc.loc main_arg2)) := by
  rfl

/-- The magnitude a code's three low bits name. -/
def magOf (v : BitVec 32) : EReal :=
  if v &&& 4#32 ≠ 0#32 then
    if v &&& 2#32 ≠ 0#32 then (if v &&& 1#32 ≠ 0#32 then Ideal.ofBits .bf16 0x40C0#16 else Ideal.ofBits .bf16 0x4080#16)
    else (if v &&& 1#32 ≠ 0#32 then Ideal.ofBits .bf16 0x4040#16 else Ideal.ofBits .bf16 0x4000#16)
  else
    if v &&& 2#32 ≠ 0#32 then (if v &&& 1#32 ≠ 0#32 then Ideal.ofBits .bf16 0x3FC0#16 else Ideal.ofBits .bf16 0x3F80#16)
    else (if v &&& 1#32 ≠ 0#32 then Ideal.ofBits .bf16 0x3F00#16 else Ideal.ofBits .bf16 0x0000#16)

/-- The value a code names. -/
def codeOf (v : BitVec 32) : EReal := if v &&& 8#32 ≠ 0#32 then -magOf v else magOf v

theorem select_bitSet (v : IVec S8192x6656 32) (b : BitVec 32) (x y : FVec Ideal S8192x6656 .bf16) (i : S8192x6656.Idx) :
    select (bitSet v b) x y i = if v i &&& b ≠ 0#32 then x i else y i := by
  unfold bitSet splatI
  pointwise
  simp only [Scalar.select, IntOp.cmpi, IntOp.andi]
  by_cases h : v i &&& b = 0#32
  · simp [h]
  · have hb : BitVec.ofBool (v i &&& b != 0#32) = 1#1 := by rw [show (v i &&& b != 0#32) = true from bne_iff_ne.mpr h]; rfl
    exact (if_pos hb).trans (if_pos h).symm

theorem splatF_apply (b : BitVec 16) (i : S8192x6656.Idx) : splatF b i = Ideal.ofBits .bf16 b := by
  unfold splatF
  pointwise

theorem refMags_apply (v : IVec S8192x6656 32) (i : S8192x6656.Idx) : refMags v i = magOf (v i) := by
  unfold refMags magOf
  simp only [select_bitSet, splatF_apply]

theorem refCodes_apply (v : IVec S8192x6656 32) (i : S8192x6656.Idx) : refCodes v i = codeOf (v i) := by
  unfold refCodes codeOf
  rw [select_bitSet, ← refMags_apply]
  rfl

/-- The scale a scale code names. -/
def scaleOf (s : BitVec 8) : EReal :=
  Ideal.pow (Ideal.ofBits .f32 0x40000000#32) ((((s.setWidth 32 - 127#32).toInt : ℤ) : ℝ) : EReal)

theorem refScales_apply (s : IVec S8192x208 8) (a : Fin 8192) (k : Fin 6656) :
    refScales s (ix2 a k) = scaleOf (s (ix2 a ⟨k.val / 32, by omega⟩)) := by
  unfold refScales scaleOf
  pointwise
  rfl

/-- The code of parity `p` in a byte. -/
def wordOf (p : Fin 2) (b : BitVec 8) : BitVec 32 :=
  if p = 0 then b.setWidth 32 &&& 15#32 else (b.setWidth 32).sshiftRight 4

theorem refWords_apply (p : Fin 2) (w : IVec S8192x6656 8) (i : S8192x6656.Idx) : refWords p w i = wordOf p (w i) := by
  match p with
  | 0 => unfold refWords wordOf splatI; pointwise; rfl
  | 1 => unfold refWords wordOf splatI; pointwise; rfl

theorem refRows_apply (p : Fin 2) (s : IVec S16384x208 8) (a : Fin 8192) (b : Fin 208) :
    refRows p s (ix2 a b) = s (ix2 ⟨2 * a.val + p.val, by omega⟩ b) := by
  match p with
  | 0 => unfold refRows; pointwise; exact congrArg (fun r => s (ix2 r b)) (Fin.ext (by show a.val * 2 = 2 * a.val; omega))
  | 1 => unfold refRows; pointwise; exact congrArg (fun r => s (ix2 r b)) (Fin.ext (by show a.val * 2 + 1 = 2 * a.val + 1; omega))

theorem refHalf_apply (x : FVec Ideal S192x1x6656 .bf16) (v : IVec S8192x6656 32) (s : IVec S8192x208 8)
    (n : Fin 192) (a : Fin 8192) :
    refHalf x v s (ix4 n 0 a 0)
      = ∑ k : Fin 6656, x (ix3 n 0 k) * (codeOf (v (ix2 a k)) * scaleOf (s (ix2 a ⟨k.val / 32, by omega⟩))) := by
  unfold refHalf
  pointwise
  simp only [refCodes_apply, refScales_apply]

/-- One product of the reference's contraction: row `n`, output column `q`, input column `k`. -/
def refTerm (x : FVec Ideal S192x1x6656 .bf16) (w : IVec S8192x6656 8) (s : IVec S16384x208 8)
    (n : Fin 192) (q : Fin 16384) (k : Fin 6656) : EReal :=
  x (ix3 n 0 k) * (codeOf (wordOf ⟨q.val % 2, by omega⟩ (w (ix2 ⟨q.val / 2, by omega⟩ k)))
    * scaleOf (s (ix2 q ⟨k.val / 32, by omega⟩)))

theorem half_term (x : FVec Ideal S192x1x6656 .bf16) (w : IVec S8192x6656 8) (s : IVec S16384x208 8)
    (n : Fin 192) (q : Fin 16384) (p : Fin 2) (hp : p.val = q.val % 2) :
    refHalf x (refWords p w) (refRows p s) (ix4 n 0 ⟨q.val / 2, by omega⟩ 0) = ∑ k : Fin 6656, refTerm x w s n q k := by
  rw [refHalf_apply]
  refine Finset.sum_congr rfl fun k _ => ?_
  unfold refTerm
  rw [refWords_apply, refRows_apply]
  have e : (⟨q.val % 2, by omega⟩ : Fin 2) = p := Fin.ext hp.symm
  have r : (⟨2 * (q.val / 2) + p.val, by omega⟩ : Fin 16384) = q := Fin.ext (by show 2 * (q.val / 2) + p.val = q.val; omega)
  rw [e]
  exact congrArg (fun z => x (ix3 n 0 k) * (codeOf (wordOf p (w (ix2 ⟨q.val / 2, by omega⟩ k))) * scaleOf (s (ix2 z ⟨k.val / 32, by omega⟩)))) r

/-- The reference's result at row `n` and column `q`: the whole contraction. -/
theorem refResult_apply (x : FVec Ideal S192x1x6656 .bf16) (w : IVec S8192x6656 8) (s : IVec S16384x208 8)
    (n : Fin 192) (q : Fin 16384) : refResult x w s (ix2 n q) = ∑ k : Fin 6656, refTerm x w s n q k := by
  unfold refResult
  pointwise
  split
  · rename_i h
    rw [← half_term x w s n q 0 (by show 0 = q.val % 2; omega)]
    exact congrArg (fun z => refHalf x (refWords 0 w) (refRows 0 s) (ix4 n 0 ⟨q.val / 2, by omega⟩ z)) (Subsingleton.elim _ _)
  · rename_i h
    rw [← half_term x w s n q 1 (by show 1 = q.val % 2; omega)]
    exact congrArg (fun z => refHalf x (refWords 1 w) (refRows 1 s) (ix4 n 0 ⟨q.val / 2, by omega⟩ z)) (Subsingleton.elim _ _)

end Cert.Proof

end
-- ==== Proof.Decode.lean ====
/- What a code and a scale denote in the kernel's reading and in the reference's. -/
module

public import proofs.«01_k».proof.Proof.Weights
public import proofs.«01_k».proof.Proof.Reference

@[expose] public section

set_option maxRecDepth 16384

noncomputable section

namespace Cert.Proof

open Idealize.ShloMosaic

/-- The nibble of parity `p` in a byte. -/
def nibbleOf (p : Fin 2) (b : BitVec 8) : BitVec 4 := b.extractLsb' (4 * p.val) 4

/-- A nibble, spread over the byte that the kernel reads as an eight-bit float. -/
def spread (v : BitVec 4) : BitVec 8 := evenByte (v.setWidth 8)

theorem spreadByte_eq : ∀ (p : Fin 2) (b : BitVec 8), spreadByte p b = spread (nibbleOf p b) := by decide +kernel

/-- The reference's word of a code: its four low bits are the nibble, and no other bit of the word is read. -/
theorem wordOf_eq : ∀ (p : Fin 2) (b : BitVec 8), wordOf p b = (nibbleOf p b).setWidth 32 := by decide +kernel

theorem f32_64 : Ideal.ofBits .f32 0x42800000#32 = ((64 : ℝ) : EReal) := by
  simp [Ideal.ofBits, Ideal.ieee, -EReal.coe_mul]; norm_num

theorem f32_2 : Ideal.ofBits .f32 0x40000000#32 = ((2 : ℝ) : EReal) := by
  simp [Ideal.ofBits, Ideal.ieee, -EReal.coe_mul]; norm_num

theorem bf16_half : Ideal.ofBits .bf16 0x3F00#16 = ((1 / 2 : ℝ) : EReal) := by
  simp [Ideal.ofBits, Ideal.ieee, -EReal.coe_mul]; norm_num
theorem bf16_three_halves : Ideal.ofBits .bf16 0x3FC0#16 = ((3 / 2 : ℝ) : EReal) := by
  simp [Ideal.ofBits, Ideal.ieee, -EReal.coe_mul]; norm_num
theorem bf16_two : Ideal.ofBits .bf16 0x4000#16 = ((2 : ℝ) : EReal) := by
  simp [Ideal.ofBits, Ideal.ieee, -EReal.coe_mul]; norm_num
theorem bf16_three : Ideal.ofBits .bf16 0x4040#16 = ((3 : ℝ) : EReal) := by
  simp [Ideal.ofBits, Ideal.ieee, -EReal.coe_mul]; norm_num
theorem bf16_four : Ideal.ofBits .bf16 0x4080#16 = ((4 : ℝ) : EReal) := by
  simp [Ideal.ofBits, Ideal.ieee, -EReal.coe_mul]; norm_num
theorem bf16_six : Ideal.ofBits .bf16 0x40C0#16 = ((6 : ℝ) : EReal) := by
  simp [Ideal.ofBits, Ideal.ieee, -EReal.coe_mul]; norm_num

/-- The magnitudes by the nibble's three low bits. -/
def magTable (v : Nat) : ℝ :=
  match v with
  | 0 => 0 | 1 => 1 / 2 | 2 => 1 | 3 => 3 / 2 | 4 => 2 | 5 => 3 | 6 => 4 | _ => 6

/-- The values by the nibble. -/
def codeTable (v : BitVec 4) : ℝ := if v.getLsbD 3 then -magTable (v.toNat % 8) else magTable (v.toNat % 8)

theorem nibble_cases (P : BitVec 4 → Prop) (h : ∀ i : Fin 16, P (BitVec.ofFin i)) (v : BitVec 4) : P v := h v.toFin

/-- The reference's value of a nibble. -/
theorem codeOf_nibble (v : BitVec 4) : codeOf (v.setWidth 32) = ((codeTable v : ℝ) : EReal) := by
  revert v
  refine nibble_cases _ fun i => ?_
  fin_cases i <;>
    simp [codeOf, magOf, codeTable, magTable, bf16_half, bf16_three_halves, bf16_two, bf16_three, bf16_four, bf16_six]

/-- The kernel's value of a spread nibble is a sixty-fourth of it. -/
theorem e4m3_spread (v : BitVec 4) : Ideal.ofBits .fp8e4m3 (spread v) = ((codeTable v / 64 : ℝ) : EReal) := by
  revert v
  refine nibble_cases _ fun i => ?_
  fin_cases i <;>
    (simp [spread, evenByte, Ideal.ofBits, Ideal.e4m3fn, codeTable, magTable, -EReal.coe_mul, -EReal.coe_neg]) <;>
    norm_num

/-- The kernel's value of a code, times 64, is the reference's. -/
theorem codeVal_mul (p : Fin 2) (b : BitVec 8) : codeVal p b * ((64 : ℝ) : EReal) = codeOf (wordOf p b) := by
  unfold codeVal
  rw [spreadByte_eq, e4m3_spread, wordOf_eq, codeOf_nibble, ← EReal.coe_mul]
  congr 1
  ring

/-- A code whose magnitude bits are zero has the value zero, in the kernel's reading. -/
theorem codeVal_zero (p : Fin 2) (b : BitVec 8) (h : nibbleOf p b &&& 7#4 = 0#4) : codeVal p b = 0 := by
  unfold codeVal
  rw [spreadByte_eq, e4m3_spread]
  revert h
  generalize nibbleOf p b = v
  revert v
  refine nibble_cases _ fun i => ?_
  fin_cases i <;> simp [codeTable, magTable]

/-- The exponent field of the kernel's scale is the scale code, -/
theorem scaleHalf_fields : ∀ s : BitVec 8, (scaleHalf s).extractLsb' 7 8 = s ∧ (scaleHalf s).extractLsb' 0 7 = 0#7
    ∧ (scaleHalf s).extractLsb' 15 1 = 0#1 := by decide +kernel

/-- and the reference's exponent is the code less 127. -/
theorem exponent_eq : ∀ s : BitVec 8, (s.setWidth 32 - 127#32).toInt = (s.toNat : Int) - 127 := by decide +kernel

/-- Both scales agree for every code the format does not reserve. -/
theorem scaleVal_eq (s : BitVec 8) (h1 : 1 ≤ s.toNat) (h2 : s.toNat ≤ 254) : scaleVal s = scaleOf s := by
  obtain ⟨e0, e1, e2⟩ := scaleHalf_fields s
  unfold scaleVal scaleOf
  rw [exponent_eq, f32_2]
  have hk : scaleVal s = (((2 : ℝ) ^ ((s.toNat : Int) - 127) : ℝ) : EReal) := by
    show Ideal.ieee 8 7 (scaleHalf s) = _
    unfold Ideal.ieee
    simp only [Nat.reduceAdd, e0, e1, e2]
    rw [if_neg (by omega), if_neg (by omega)]
    congr 1
    rw [show ((s.toNat : Int) - (2 ^ (8 - 1) - 1) - ((7 : ℕ) : Int)) = ((s.toNat : Int) - 127) - 7 by norm_num, zpow_sub₀ (by norm_num)]
    simp
    ring
  refine hk.trans ?_
  show _ = (((2 : ℝ) ^ ((((s.toNat : Int) - 127 : Int) : ℝ)) : ℝ) : EReal)
  rw [Real.rpow_intCast]

end Cert.Proof

end
-- ==== Proof.Normal.lean ====
/- What the precondition says of one weight. -/
module

public import proofs.«01_k».proof.Proof.Gen.Pre_scales_are_normal
public import proofs.«01_k».proof.Proof.Decode

@[expose] public section

set_option maxRecDepth 16384

noncomputable section

namespace Cert.Proof

open Cert.Pre_scales_are_normal Cert.Pre_scales_are_normal.Gen Idealize.ShloMosaic

/-- The precondition at the weight of row pair `a` and input column `k`, as one bit. -/
def normalBit (c e o : BitVec 8) : BitVec 1 :=
  IntOp.andi
    (IntOp.ori (IntOp.cmpi .eq (IntOp.andi (c.setWidth 32) 7#32) 0#32)
      (IntOp.andi (IntOp.cmpi .sge (e.setWidth 32) 1#32) (IntOp.cmpi .sle (e.setWidth 32) 254#32)))
    (IntOp.ori (IntOp.cmpi .eq (IntOp.andi (c.setWidth 32) 112#32) 0#32)
      (IntOp.andi (IntOp.cmpi .sge (o.setWidth 32) 1#32) (IntOp.cmpi .sle (o.setWidth 32) 254#32)))

theorem fn_apply (x : FVec Ideal S192x1x6656 .bf16) (w : IVec S8192x6656 8) (s : IVec S16384x208 8) (a : Fin 8192) (k : Fin 6656) :
    fn (F := Ideal) x w s (ix2 a k)
      = normalBit (w (ix2 a k)) (s (ix2 ⟨a.val * 2, by omega⟩ ⟨k.val / 32, by omega⟩))
          (s (ix2 ⟨a.val * 2 + 1, by omega⟩ ⟨k.val / 32, by omega⟩)) := by
  unfold fn fn_part1 normalBit
  pointwise

/-- The bit that says a scale code is not reserved. -/
theorem scale_bit : ∀ s : BitVec 8,
    IntOp.andi (IntOp.cmpi .sge (s.setWidth 32) 1#32) (IntOp.cmpi .sle (s.setWidth 32) 254#32) = 1#1
      → 1 ≤ s.toNat ∧ s.toNat ≤ 254 := by decide +kernel

/-- The bits that say a magnitude is zero. -/
theorem even_bit : ∀ c : BitVec 8, IntOp.cmpi .eq (IntOp.andi (c.setWidth 32) 7#32) 0#32 = 1#1
    → nibbleOf 0 c &&& 7#4 = 0#4 := by decide +kernel
@[inherit_doc even_bit] theorem odd_bit : ∀ c : BitVec 8, IntOp.cmpi .eq (IntOp.andi (c.setWidth 32) 112#32) 0#32 = 1#1
    → nibbleOf 1 c &&& 7#4 = 0#4 := by decide +kernel

theorem and_bit : ∀ a b : BitVec 1, IntOp.andi a b = 1#1 → a = 1#1 ∧ b = 1#1 := by decide +kernel
theorem or_bit : ∀ a b : BitVec 1, IntOp.ori a b = 1#1 → a = 1#1 ∨ b = 1#1 := by decide +kernel

/-- Under the precondition, the weight of output column `q` and input column `k` is zero or its scale is normal. -/
theorem normal (x : FVec Ideal S192x1x6656 .bf16) (w : IVec S8192x6656 8) (s : IVec S16384x208 8)
    (h : fn (F := Ideal) x w s = fun _ => 1#1) (q : Fin 16384) (k : Fin 6656) :
    nibbleOf ⟨q.val % 2, by omega⟩ (w (ix2 ⟨q.val / 2, by omega⟩ k)) &&& 7#4 = 0#4
      ∨ (1 ≤ (s (ix2 q ⟨k.val / 32, by omega⟩)).toNat ∧ (s (ix2 q ⟨k.val / 32, by omega⟩)).toNat ≤ 254) := by
  have hb := (fn_apply x w s ⟨q.val / 2, by omega⟩ k).symm.trans (congrFun h _)
  obtain ⟨he, ho⟩ := and_bit _ _ hb
  rcases Nat.mod_two_eq_zero_or_one q.val with hq | hq
  · have ep : (⟨q.val % 2, by omega⟩ : Fin 2) = 0 := Fin.ext hq
    have er : (⟨q.val / 2 * 2, by omega⟩ : Fin 16384) = q := Fin.ext (by show q.val / 2 * 2 = q.val; omega)
    rw [ep]
    rcases or_bit _ _ he with h0 | h0
    · exact Or.inl (even_bit _ h0)
    · have := scale_bit _ h0
      simp only [er] at this
      exact Or.inr this
  · have ep : (⟨q.val % 2, by omega⟩ : Fin 2) = 1 := Fin.ext hq
    have er : (⟨q.val / 2 * 2 + 1, by omega⟩ : Fin 16384) = q := Fin.ext (by show q.val / 2 * 2 + 1 = q.val; omega)
    rw [ep]
    rcases or_bit _ _ ho with h0 | h0
    · exact Or.inl (odd_bit _ h0)
    · have := scale_bit _ h0
      simp only [er] at this
      exact Or.inr this

end Cert.Proof

end
-- ==== Proof.Equal.lean ====
/- The kernel's result is the reference's, and the claim about both programs. -/
module

public import proofs.«01_k».proof.Proof.Array
public import proofs.«01_k».proof.Proof.Normal
public import proofs.«01_k».proof.Defs

@[expose] public section

set_option maxRecDepth 16384

noncomputable section

namespace Cert.Proof

open Idealize.ShloMosaic

/-- A finite factor that is not negative goes into a sum of extended reals. -/
theorem sum_mul_coe {ι : Type} (t : Finset ι) (f : ι → EReal) (r : ℝ) (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hr) (EReal.coe_ne_top r) _ _

variable (m : (ℓ : Loc Cert.KernelIdeal.nD Cert.KernelIdeal.τ Cert.KernelIdeal.sig) → Buf (Elt Ideal) ℓ) (c : Dev Cert.KernelIdeal.nD)

/-- One product of the kernel's contraction, times 64, is the reference's product. -/
theorem term_eq (h : Cert.Pre_scales_are_normal.fn (F := Ideal) (argX m c) (argC m c) (argS m c) = fun _ => 1#1)
    (n : Fin 192) (q : Fin 16384) (k : Fin 6656) :
    kernelTerm m c n q k * ((64 : ℝ) : EReal) = refTerm (argX m c) (argC m c) (argS m c) n q k := by
  unfold kernelTerm refTerm
  rw [← codeVal_mul]
  rcases normal _ _ _ h q k with h0 | ⟨h1, h2⟩
  · rw [codeVal_zero _ _ h0]
    simp
  · rw [scaleVal_eq _ h1 h2, mul_assoc, mul_right_comm]

/-- The kernel's result array is the reference's. -/
theorem result_eq (h : Cert.Pre_scales_are_normal.fn (F := Ideal) (argX m c) (argC m c) (argS m c) = fun _ => 1#1) :
    (Cert.KernelIdeal.Gen.dats m 0 c).arrAt 3 Cert.KernelIdeal.cfg0.N = refResult (argX m c) (argC m c) (argS m c) := by
  funext j
  obtain ⟨n, q, rfl⟩ : ∃ (n : Fin 192) (q : Fin 16384), j = ix2 n q := ⟨j 0, j 1, eq_ix2 j⟩
  rw [refResult_apply]
  refine (result_apply m c n q).trans ?_
  rw [f32_64]
  exact (sum_mul_coe _ _ 64 (by norm_num)).trans (Finset.sum_congr rfl fun k _ => term_eq m c h n q k)

/-- Under the precondition, the kernel and the reference both run and end with equal results. -/
theorem algebraic : Cert.algebraic_KernelIdeal_ReferenceIdeal_pre_scales_are_normal := by
  intro m g m' g' hpre hagree
  refine ⟨fun c => (Cert.KernelIdeal.Gen.dats m 0 c).arrAt 3 Cert.KernelIdeal.cfg0.N,
    Cert.KernelIdeal.Value.run_blocks m g, ?_⟩
  refine (θ_run _ _ _).mono (fun r h c => ?_) (Cert.ReferenceIdeal.Value.run m' g')
  obtain ⟨h0, h1⟩ := h c
  refine ⟨h0.trans ?_, h1⟩
  obtain ⟨a0, a1, a2⟩ := hagree c
  rw [res_eq, a0, a1, a2]
  exact (result_eq m c (hpre c)).symm

end Cert.Proof

end
-- ==== Proof.lean ====
/- The proof of the certificate's claim. -/
module

public import proofs.«01_k».proof.Proof.Frames
public import proofs.«01_k».proof.Proof.Equal
public import proofs.«01_k».proof.Defs

@[expose] public section

namespace Cert.Proof

/-- The programs run and leave every counter at zero, the idealization is the sanctioned one, and the kernel's result is
    the reference's. -/
theorem claim : Cert.Claim :=
  ⟨Cert.Kernel.Gen.facts, Cert.KernelIdeal.Gen.facts, Cert.ReferenceIdeal.Gen.facts, Cert.Pre_scales_are_normal.Gen.facts,
    kernel_quiescent, kernelIdeal_quiescent, fun m g _ => kernelIdeal_quiescent m g trivial,
    referenceIdeal_quiescent, fun m g _ => referenceIdeal_quiescent m g trivial, preserves, algebraic⟩

end Cert.Proof
